-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v102) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2128896 : Shape := ⟨1, ![2128896]⟩
abbrev S8x8x4x160 : Shape := ⟨4, ![8, 8, 4, 160]⟩
abbrev S160 : Shape := ⟨1, ![160]⟩
abbrev S21x792x128 : Shape := ⟨3, ![21, 792, 128]⟩
abbrev S2x4x2x4x4x160 : Shape := ⟨6, ![2, 4, 2, 4, 4, 160]⟩
abbrev S2x2x4x4x4x160 : Shape := ⟨6, ![2, 2, 4, 4, 4, 160]⟩
abbrev S256x160 : Shape := ⟨2, ![256, 160]⟩
abbrev S1x160 : Shape := ⟨2, ![1, 160]⟩
abbrev S20x20x144x160 : Shape := ⟨4, ![20, 20, 144, 160]⟩
abbrev S1x792x128 : Shape := ⟨3, ![1, 792, 128]⟩
abbrev S1x20x144x160 : Shape := ⟨4, ![1, 20, 144, 160]⟩
abbrev S2x20x288x128 : Shape := ⟨4, ![2, 20, 288, 128]⟩
abbrev S8x128 : Shape := ⟨2, ![8, 128]⟩
abbrev S1x8x128 : Shape := ⟨3, ![1, 8, 128]⟩
abbrev S32x128 : Shape := ⟨2, ![32, 128]⟩
abbrev S1x1x32x128 : Shape := ⟨4, ![1, 1, 32, 128]⟩
abbrev S1x1x288x128 : Shape := ⟨4, ![1, 1, 288, 128]⟩
abbrev S288x128 : Shape := ⟨2, ![288, 128]⟩
abbrev S288x256 : Shape := ⟨2, ![288, 256]⟩
abbrev S288x160 : Shape := ⟨2, ![288, 160]⟩
abbrev S144x160 : Shape := ⟨2, ![144, 160]⟩
abbrev S1x1x144x160 : Shape := ⟨4, ![1, 1, 144, 160]⟩
abbrev S144x20x20x160 : Shape := ⟨4, ![144, 20, 20, 160]⟩

abbrev nBuf : Space → Nat
  | .hbm => 14
  | .vmem => 11
  | .smem => 0
  | _ => 0

abbrev bufTy : (tb : Table) → Fin (tcTables nBuf tb) → BufTy
  | .hbm, ⟨0, _⟩ => ⟨S2128896, .i32⟩
  | .hbm, ⟨1, _⟩ => ⟨S8x8x4x160, .fp8e4m3⟩
  | .hbm, ⟨2, _⟩ => ⟨S160, .f32⟩
  | .hbm, ⟨3, _⟩ => ⟨S160, .f32⟩
  | .hbm, ⟨4, _⟩ => ⟨S21x792x128, .i32⟩
  | .hbm, ⟨5, _⟩ => ⟨S2x4x2x4x4x160, .fp8e4m3⟩
  | .hbm, ⟨6, _⟩ => ⟨S2x2x4x4x4x160, .fp8e4m3⟩
  | .hbm, ⟨7, _⟩ => ⟨S256x160, .fp8e4m3⟩
  | .hbm, ⟨8, _⟩ => ⟨S1x160, .f32⟩
  | .hbm, ⟨9, _⟩ => ⟨S1x160, .f32⟩
  | .hbm, ⟨10, _⟩ => ⟨S20x20x144x160, .bf16⟩
  | .hbm, ⟨11, _⟩ => ⟨S20x20x144x160, .bf16⟩
  | .hbm, ⟨12, _⟩ => ⟨S144x20x20x160, .bf16⟩
  | .hbm, ⟨13, _⟩ => ⟨S144x20x20x160, .bf16⟩
  | .local _ .vmem, ⟨0, _⟩ => ⟨S1x792x128, .i32⟩
  | .local _ .vmem, ⟨1, _⟩ => ⟨S1x792x128, .i32⟩
  | .local _ .vmem, ⟨2, _⟩ => ⟨S256x160, .fp8e4m3⟩
  | .local _ .vmem, ⟨3, _⟩ => ⟨S1x160, .f32⟩
  | .local _ .vmem, ⟨4, _⟩ => ⟨S1x160, .f32⟩
  | .local _ .vmem, ⟨5, _⟩ => ⟨S1x20x144x160, .bf16⟩
  | .local _ .vmem, ⟨6, _⟩ => ⟨S1x20x144x160, .bf16⟩
  | .local _ .vmem, ⟨7, _⟩ => ⟨S1x20x144x160, .bf16⟩
  | .local _ .vmem, ⟨8, _⟩ => ⟨S1x20x144x160, .bf16⟩
  | .local _ .vmem, ⟨9, _⟩ => ⟨S2x20x288x128, .bf16⟩
  | .local _ .vmem, ⟨10, _⟩ => ⟨S256x160, .bf16⟩
  | _, _ => ⟨S2128896, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![21], ![false]⟩

def k0_off1 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v20 : Index := Scalar.indexCast v9
  let c0_7 : Index := 0#32
  let c0_8 : Index := 0#32
  let c0_9 : Index := 0#32
  ![v20.toNat, 0, 0, 0]
def k0_off2 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v29 : Index := Scalar.indexCast v9
  let c2 : Index := 2#32
  let c0_13 : Index := 0#32
  let c0_14 : Index := 0#32
  ![v29.toNat, 2, 0, 0]
def k0_off3 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v37 : Index := Scalar.indexCast v9
  let c1_16 : Index := 1#32
  let c0_17 : Index := 0#32
  let c0_18 : Index := 0#32
  ![v37.toNat, 1, 0, 0]
def k0_off4 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v45 : Index := Scalar.indexCast v9
  let c4 : Index := 4#32
  let c0_22 : Index := 0#32
  let c0_23 : Index := 0#32
  ![v45.toNat, 4, 0, 0]
def k0_off5 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v53 : Index := Scalar.indexCast v9
  let c3 : Index := 3#32
  let c0_25 : Index := 0#32
  let c0_26 : Index := 0#32
  ![v53.toNat, 3, 0, 0]
def k0_off6 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v61 : Index := Scalar.indexCast v9
  let c6 : Index := 6#32
  let c0_30 : Index := 0#32
  let c0_31 : Index := 0#32
  ![v61.toNat, 6, 0, 0]
def k0_off7 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v69 : Index := Scalar.indexCast v9
  let c5 : Index := 5#32
  let c0_33 : Index := 0#32
  let c0_34 : Index := 0#32
  ![v69.toNat, 5, 0, 0]
def k0_off8 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v77 : Index := Scalar.indexCast v9
  let c8 : Index := 8#32
  let c0_38 : Index := 0#32
  let c0_39 : Index := 0#32
  ![v77.toNat, 8, 0, 0]
def k0_off9 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v85 : Index := Scalar.indexCast v9
  let c7 : Index := 7#32
  let c0_41 : Index := 0#32
  let c0_42 : Index := 0#32
  ![v85.toNat, 7, 0, 0]
def k0_off10 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v93 : Index := Scalar.indexCast v9
  let c10 : Index := 10#32
  let c0_46 : Index := 0#32
  let c0_47 : Index := 0#32
  ![v93.toNat, 10, 0, 0]
def k0_off11 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v101 : Index := Scalar.indexCast v9
  let c9 : Index := 9#32
  let c0_49 : Index := 0#32
  let c0_50 : Index := 0#32
  ![v101.toNat, 9, 0, 0]
def k0_off12 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v109 : Index := Scalar.indexCast v9
  let c12 : Index := 12#32
  let c0_54 : Index := 0#32
  let c0_55 : Index := 0#32
  ![v109.toNat, 12, 0, 0]
def k0_off13 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v117 : Index := Scalar.indexCast v9
  let c11 : Index := 11#32
  let c0_57 : Index := 0#32
  let c0_58 : Index := 0#32
  ![v117.toNat, 11, 0, 0]
def k0_off14 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v125 : Index := Scalar.indexCast v9
  let c14 : Index := 14#32
  let c0_62 : Index := 0#32
  let c0_63 : Index := 0#32
  ![v125.toNat, 14, 0, 0]
def k0_off15 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v133 : Index := Scalar.indexCast v9
  let c13 : Index := 13#32
  let c0_65 : Index := 0#32
  let c0_66 : Index := 0#32
  ![v133.toNat, 13, 0, 0]
def k0_off16 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v141 : Index := Scalar.indexCast v9
  let c16 : Index := 16#32
  let c0_70 : Index := 0#32
  let c0_71 : Index := 0#32
  ![v141.toNat, 16, 0, 0]
def k0_off17 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v149 : Index := Scalar.indexCast v9
  let c15 : Index := 15#32
  let c0_73 : Index := 0#32
  let c0_74 : Index := 0#32
  ![v149.toNat, 15, 0, 0]
def k0_off18 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v157 : Index := Scalar.indexCast v9
  let c18 : Index := 18#32
  let c0_78 : Index := 0#32
  let c0_79 : Index := 0#32
  ![v157.toNat, 18, 0, 0]
def k0_off19 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v165 : Index := Scalar.indexCast v9
  let c17 : Index := 17#32
  let c0_81 : Index := 0#32
  let c0_82 : Index := 0#32
  ![v165.toNat, 17, 0, 0]
def k0_off20 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v175 : Index := Scalar.indexCast v9
  let c19 : Index := 19#32
  let c0_87 : Index := 0#32
  let c0_88 : Index := 0#32
  ![v175.toNat, 19, 0, 0]
def k0_off21 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v183 : Index := Scalar.indexCast v9
  let c0_91 : Index := 0#32
  let c32 : Index := 32#32
  let c0_92 : Index := 0#32
  ![v183.toNat, 0, 32, 0]
def k0_off22 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v192 : Index := Scalar.indexCast v9
  let c2_96 : Index := 2#32
  let c32_97 : Index := 32#32
  let c0_98 : Index := 0#32
  ![v192.toNat, 2, 32, 0]
def k0_off23 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v200 : Index := Scalar.indexCast v9
  let c1_100 : Index := 1#32
  let c32_101 : Index := 32#32
  let c0_102 : Index := 0#32
  ![v200.toNat, 1, 32, 0]
def k0_off24 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v208 : Index := Scalar.indexCast v9
  let c4_105 : Index := 4#32
  let c32_106 : Index := 32#32
  let c0_107 : Index := 0#32
  ![v208.toNat, 4, 32, 0]
def k0_off25 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v216 : Index := Scalar.indexCast v9
  let c3_109 : Index := 3#32
  let c32_110 : Index := 32#32
  let c0_111 : Index := 0#32
  ![v216.toNat, 3, 32, 0]
def k0_off26 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v224 : Index := Scalar.indexCast v9
  let c6_114 : Index := 6#32
  let c32_115 : Index := 32#32
  let c0_116 : Index := 0#32
  ![v224.toNat, 6, 32, 0]
def k0_off27 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v232 : Index := Scalar.indexCast v9
  let c5_118 : Index := 5#32
  let c32_119 : Index := 32#32
  let c0_120 : Index := 0#32
  ![v232.toNat, 5, 32, 0]
def k0_off28 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v240 : Index := Scalar.indexCast v9
  let c8_123 : Index := 8#32
  let c32_124 : Index := 32#32
  let c0_125 : Index := 0#32
  ![v240.toNat, 8, 32, 0]
def k0_off29 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v248 : Index := Scalar.indexCast v9
  let c7_127 : Index := 7#32
  let c32_128 : Index := 32#32
  let c0_129 : Index := 0#32
  ![v248.toNat, 7, 32, 0]
def k0_off30 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v256 : Index := Scalar.indexCast v9
  let c10_132 : Index := 10#32
  let c32_133 : Index := 32#32
  let c0_134 : Index := 0#32
  ![v256.toNat, 10, 32, 0]
def k0_off31 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v264 : Index := Scalar.indexCast v9
  let c9_136 : Index := 9#32
  let c32_137 : Index := 32#32
  let c0_138 : Index := 0#32
  ![v264.toNat, 9, 32, 0]
def k0_off32 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v272 : Index := Scalar.indexCast v9
  let c12_141 : Index := 12#32
  let c32_142 : Index := 32#32
  let c0_143 : Index := 0#32
  ![v272.toNat, 12, 32, 0]
def k0_off33 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v280 : Index := Scalar.indexCast v9
  let c11_145 : Index := 11#32
  let c32_146 : Index := 32#32
  let c0_147 : Index := 0#32
  ![v280.toNat, 11, 32, 0]
def k0_off34 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v288 : Index := Scalar.indexCast v9
  let c14_150 : Index := 14#32
  let c32_151 : Index := 32#32
  let c0_152 : Index := 0#32
  ![v288.toNat, 14, 32, 0]
def k0_off35 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v296 : Index := Scalar.indexCast v9
  let c13_154 : Index := 13#32
  let c32_155 : Index := 32#32
  let c0_156 : Index := 0#32
  ![v296.toNat, 13, 32, 0]
def k0_off36 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v304 : Index := Scalar.indexCast v9
  let c16_159 : Index := 16#32
  let c32_160 : Index := 32#32
  let c0_161 : Index := 0#32
  ![v304.toNat, 16, 32, 0]
def k0_off37 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v312 : Index := Scalar.indexCast v9
  let c15_163 : Index := 15#32
  let c32_164 : Index := 32#32
  let c0_165 : Index := 0#32
  ![v312.toNat, 15, 32, 0]
def k0_off38 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v320 : Index := Scalar.indexCast v9
  let c18_168 : Index := 18#32
  let c32_169 : Index := 32#32
  let c0_170 : Index := 0#32
  ![v320.toNat, 18, 32, 0]
def k0_off39 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v328 : Index := Scalar.indexCast v9
  let c17_172 : Index := 17#32
  let c32_173 : Index := 32#32
  let c0_174 : Index := 0#32
  ![v328.toNat, 17, 32, 0]
def k0_off40 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v338 : Index := Scalar.indexCast v9
  let c19_178 : Index := 19#32
  let c32_179 : Index := 32#32
  let c0_180 : Index := 0#32
  ![v338.toNat, 19, 32, 0]
def k0_off41 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v346 : Index := Scalar.indexCast v9
  let c0_183 : Index := 0#32
  let c64 : Index := 64#32
  let c0_184 : Index := 0#32
  ![v346.toNat, 0, 64, 0]
def k0_off42 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v355 : Index := Scalar.indexCast v9
  let c2_188 : Index := 2#32
  let c64_189 : Index := 64#32
  let c0_190 : Index := 0#32
  ![v355.toNat, 2, 64, 0]
def k0_off43 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v363 : Index := Scalar.indexCast v9
  let c1_192 : Index := 1#32
  let c64_193 : Index := 64#32
  let c0_194 : Index := 0#32
  ![v363.toNat, 1, 64, 0]
def k0_off44 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v371 : Index := Scalar.indexCast v9
  let c4_197 : Index := 4#32
  let c64_198 : Index := 64#32
  let c0_199 : Index := 0#32
  ![v371.toNat, 4, 64, 0]
def k0_off45 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v379 : Index := Scalar.indexCast v9
  let c3_201 : Index := 3#32
  let c64_202 : Index := 64#32
  let c0_203 : Index := 0#32
  ![v379.toNat, 3, 64, 0]
def k0_off46 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v387 : Index := Scalar.indexCast v9
  let c6_206 : Index := 6#32
  let c64_207 : Index := 64#32
  let c0_208 : Index := 0#32
  ![v387.toNat, 6, 64, 0]
def k0_off47 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v395 : Index := Scalar.indexCast v9
  let c5_210 : Index := 5#32
  let c64_211 : Index := 64#32
  let c0_212 : Index := 0#32
  ![v395.toNat, 5, 64, 0]
def k0_off48 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v403 : Index := Scalar.indexCast v9
  let c8_215 : Index := 8#32
  let c64_216 : Index := 64#32
  let c0_217 : Index := 0#32
  ![v403.toNat, 8, 64, 0]
def k0_off49 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v411 : Index := Scalar.indexCast v9
  let c7_219 : Index := 7#32
  let c64_220 : Index := 64#32
  let c0_221 : Index := 0#32
  ![v411.toNat, 7, 64, 0]
def k0_off50 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v419 : Index := Scalar.indexCast v9
  let c10_224 : Index := 10#32
  let c64_225 : Index := 64#32
  let c0_226 : Index := 0#32
  ![v419.toNat, 10, 64, 0]
def k0_off51 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v427 : Index := Scalar.indexCast v9
  let c9_228 : Index := 9#32
  let c64_229 : Index := 64#32
  let c0_230 : Index := 0#32
  ![v427.toNat, 9, 64, 0]
def k0_off52 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v435 : Index := Scalar.indexCast v9
  let c12_233 : Index := 12#32
  let c64_234 : Index := 64#32
  let c0_235 : Index := 0#32
  ![v435.toNat, 12, 64, 0]
def k0_off53 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v443 : Index := Scalar.indexCast v9
  let c11_237 : Index := 11#32
  let c64_238 : Index := 64#32
  let c0_239 : Index := 0#32
  ![v443.toNat, 11, 64, 0]
def k0_off54 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v451 : Index := Scalar.indexCast v9
  let c14_242 : Index := 14#32
  let c64_243 : Index := 64#32
  let c0_244 : Index := 0#32
  ![v451.toNat, 14, 64, 0]
def k0_off55 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v459 : Index := Scalar.indexCast v9
  let c13_246 : Index := 13#32
  let c64_247 : Index := 64#32
  let c0_248 : Index := 0#32
  ![v459.toNat, 13, 64, 0]
def k0_off56 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v467 : Index := Scalar.indexCast v9
  let c16_251 : Index := 16#32
  let c64_252 : Index := 64#32
  let c0_253 : Index := 0#32
  ![v467.toNat, 16, 64, 0]
def k0_off57 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v475 : Index := Scalar.indexCast v9
  let c15_255 : Index := 15#32
  let c64_256 : Index := 64#32
  let c0_257 : Index := 0#32
  ![v475.toNat, 15, 64, 0]
def k0_off58 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v483 : Index := Scalar.indexCast v9
  let c18_260 : Index := 18#32
  let c64_261 : Index := 64#32
  let c0_262 : Index := 0#32
  ![v483.toNat, 18, 64, 0]
def k0_off59 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v491 : Index := Scalar.indexCast v9
  let c17_264 : Index := 17#32
  let c64_265 : Index := 64#32
  let c0_266 : Index := 0#32
  ![v491.toNat, 17, 64, 0]
def k0_off60 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v501 : Index := Scalar.indexCast v9
  let c19_270 : Index := 19#32
  let c64_271 : Index := 64#32
  let c0_272 : Index := 0#32
  ![v501.toNat, 19, 64, 0]
def k0_off61 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v509 : Index := Scalar.indexCast v9
  let c0_275 : Index := 0#32
  let c96_276 : Index := 96#32
  let c0_277 : Index := 0#32
  ![v509.toNat, 0, 96, 0]
def k0_off62 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v518 : Index := Scalar.indexCast v9
  let c2_281 : Index := 2#32
  let c96_282 : Index := 96#32
  let c0_283 : Index := 0#32
  ![v518.toNat, 2, 96, 0]
def k0_off63 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v526 : Index := Scalar.indexCast v9
  let c1_285 : Index := 1#32
  let c96_286 : Index := 96#32
  let c0_287 : Index := 0#32
  ![v526.toNat, 1, 96, 0]
def k0_off64 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v534 : Index := Scalar.indexCast v9
  let c4_290 : Index := 4#32
  let c96_291 : Index := 96#32
  let c0_292 : Index := 0#32
  ![v534.toNat, 4, 96, 0]
def k0_off65 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v542 : Index := Scalar.indexCast v9
  let c3_294 : Index := 3#32
  let c96_295 : Index := 96#32
  let c0_296 : Index := 0#32
  ![v542.toNat, 3, 96, 0]
def k0_off66 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v550 : Index := Scalar.indexCast v9
  let c6_299 : Index := 6#32
  let c96_300 : Index := 96#32
  let c0_301 : Index := 0#32
  ![v550.toNat, 6, 96, 0]
def k0_off67 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v558 : Index := Scalar.indexCast v9
  let c5_303 : Index := 5#32
  let c96_304 : Index := 96#32
  let c0_305 : Index := 0#32
  ![v558.toNat, 5, 96, 0]
def k0_off68 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v566 : Index := Scalar.indexCast v9
  let c8_308 : Index := 8#32
  let c96_309 : Index := 96#32
  let c0_310 : Index := 0#32
  ![v566.toNat, 8, 96, 0]
def k0_off69 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v574 : Index := Scalar.indexCast v9
  let c7_312 : Index := 7#32
  let c96_313 : Index := 96#32
  let c0_314 : Index := 0#32
  ![v574.toNat, 7, 96, 0]
def k0_off70 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v582 : Index := Scalar.indexCast v9
  let c10_317 : Index := 10#32
  let c96_318 : Index := 96#32
  let c0_319 : Index := 0#32
  ![v582.toNat, 10, 96, 0]
def k0_off71 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v590 : Index := Scalar.indexCast v9
  let c9_321 : Index := 9#32
  let c96_322 : Index := 96#32
  let c0_323 : Index := 0#32
  ![v590.toNat, 9, 96, 0]
def k0_off72 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v598 : Index := Scalar.indexCast v9
  let c12_326 : Index := 12#32
  let c96_327 : Index := 96#32
  let c0_328 : Index := 0#32
  ![v598.toNat, 12, 96, 0]
def k0_off73 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v606 : Index := Scalar.indexCast v9
  let c11_330 : Index := 11#32
  let c96_331 : Index := 96#32
  let c0_332 : Index := 0#32
  ![v606.toNat, 11, 96, 0]
def k0_off74 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v614 : Index := Scalar.indexCast v9
  let c14_335 : Index := 14#32
  let c96_336 : Index := 96#32
  let c0_337 : Index := 0#32
  ![v614.toNat, 14, 96, 0]
def k0_off75 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v622 : Index := Scalar.indexCast v9
  let c13_339 : Index := 13#32
  let c96_340 : Index := 96#32
  let c0_341 : Index := 0#32
  ![v622.toNat, 13, 96, 0]
def k0_off76 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v630 : Index := Scalar.indexCast v9
  let c16_344 : Index := 16#32
  let c96_345 : Index := 96#32
  let c0_346 : Index := 0#32
  ![v630.toNat, 16, 96, 0]
def k0_off77 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v638 : Index := Scalar.indexCast v9
  let c15_348 : Index := 15#32
  let c96_349 : Index := 96#32
  let c0_350 : Index := 0#32
  ![v638.toNat, 15, 96, 0]
def k0_off78 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v646 : Index := Scalar.indexCast v9
  let c18_353 : Index := 18#32
  let c96_354 : Index := 96#32
  let c0_355 : Index := 0#32
  ![v646.toNat, 18, 96, 0]
def k0_off79 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v654 : Index := Scalar.indexCast v9
  let c17_357 : Index := 17#32
  let c96_358 : Index := 96#32
  let c0_359 : Index := 0#32
  ![v654.toNat, 17, 96, 0]
def k0_off80 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v664 : Index := Scalar.indexCast v9
  let c19_363 : Index := 19#32
  let c96_364 : Index := 96#32
  let c0_365 : Index := 0#32
  ![v664.toNat, 19, 96, 0]
def k0_off81 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v672 : Index := Scalar.indexCast v9
  let c0_368 : Index := 0#32
  let c128 : Index := 128#32
  let c0_369 : Index := 0#32
  ![v672.toNat, 0, 128, 0]
def k0_off82 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v681 : Index := Scalar.indexCast v9
  let c2_373 : Index := 2#32
  let c128_374 : Index := 128#32
  let c0_375 : Index := 0#32
  ![v681.toNat, 2, 128, 0]
def k0_off83 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v689 : Index := Scalar.indexCast v9
  let c1_377 : Index := 1#32
  let c128_378 : Index := 128#32
  let c0_379 : Index := 0#32
  ![v689.toNat, 1, 128, 0]
def k0_off84 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v697 : Index := Scalar.indexCast v9
  let c4_382 : Index := 4#32
  let c128_383 : Index := 128#32
  let c0_384 : Index := 0#32
  ![v697.toNat, 4, 128, 0]
def k0_off85 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v705 : Index := Scalar.indexCast v9
  let c3_386 : Index := 3#32
  let c128_387 : Index := 128#32
  let c0_388 : Index := 0#32
  ![v705.toNat, 3, 128, 0]
def k0_off86 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v713 : Index := Scalar.indexCast v9
  let c6_391 : Index := 6#32
  let c128_392 : Index := 128#32
  let c0_393 : Index := 0#32
  ![v713.toNat, 6, 128, 0]
def k0_off87 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v721 : Index := Scalar.indexCast v9
  let c5_395 : Index := 5#32
  let c128_396 : Index := 128#32
  let c0_397 : Index := 0#32
  ![v721.toNat, 5, 128, 0]
def k0_off88 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v729 : Index := Scalar.indexCast v9
  let c8_400 : Index := 8#32
  let c128_401 : Index := 128#32
  let c0_402 : Index := 0#32
  ![v729.toNat, 8, 128, 0]
def k0_off89 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v737 : Index := Scalar.indexCast v9
  let c7_404 : Index := 7#32
  let c128_405 : Index := 128#32
  let c0_406 : Index := 0#32
  ![v737.toNat, 7, 128, 0]
def k0_off90 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v745 : Index := Scalar.indexCast v9
  let c10_409 : Index := 10#32
  let c128_410 : Index := 128#32
  let c0_411 : Index := 0#32
  ![v745.toNat, 10, 128, 0]
def k0_off91 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v753 : Index := Scalar.indexCast v9
  let c9_413 : Index := 9#32
  let c128_414 : Index := 128#32
  let c0_415 : Index := 0#32
  ![v753.toNat, 9, 128, 0]
def k0_off92 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v761 : Index := Scalar.indexCast v9
  let c12_418 : Index := 12#32
  let c128_419 : Index := 128#32
  let c0_420 : Index := 0#32
  ![v761.toNat, 12, 128, 0]
def k0_off93 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v769 : Index := Scalar.indexCast v9
  let c11_422 : Index := 11#32
  let c128_423 : Index := 128#32
  let c0_424 : Index := 0#32
  ![v769.toNat, 11, 128, 0]
def k0_off94 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v777 : Index := Scalar.indexCast v9
  let c14_427 : Index := 14#32
  let c128_428 : Index := 128#32
  let c0_429 : Index := 0#32
  ![v777.toNat, 14, 128, 0]
def k0_off95 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v785 : Index := Scalar.indexCast v9
  let c13_431 : Index := 13#32
  let c128_432 : Index := 128#32
  let c0_433 : Index := 0#32
  ![v785.toNat, 13, 128, 0]
def k0_off96 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v793 : Index := Scalar.indexCast v9
  let c16_436 : Index := 16#32
  let c128_437 : Index := 128#32
  let c0_438 : Index := 0#32
  ![v793.toNat, 16, 128, 0]
def k0_off97 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v801 : Index := Scalar.indexCast v9
  let c15_440 : Index := 15#32
  let c128_441 : Index := 128#32
  let c0_442 : Index := 0#32
  ![v801.toNat, 15, 128, 0]
def k0_off98 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v809 : Index := Scalar.indexCast v9
  let c18_445 : Index := 18#32
  let c128_446 : Index := 128#32
  let c0_447 : Index := 0#32
  ![v809.toNat, 18, 128, 0]
def k0_off99 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v817 : Index := Scalar.indexCast v9
  let c17_449 : Index := 17#32
  let c128_450 : Index := 128#32
  let c0_451 : Index := 0#32
  ![v817.toNat, 17, 128, 0]
def k0_off100 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v827 : Index := Scalar.indexCast v9
  let c19_455 : Index := 19#32
  let c128_456 : Index := 128#32
  let c0_457 : Index := 0#32
  ![v827.toNat, 19, 128, 0]
def k0_off101 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v835 : Index := Scalar.indexCast v9
  let c0_460 : Index := 0#32
  let c160 : Index := 160#32
  let c0_461 : Index := 0#32
  ![v835.toNat, 0, 160, 0]
def k0_off102 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v844 : Index := Scalar.indexCast v9
  let c2_465 : Index := 2#32
  let c160_466 : Index := 160#32
  let c0_467 : Index := 0#32
  ![v844.toNat, 2, 160, 0]
def k0_off103 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v852 : Index := Scalar.indexCast v9
  let c1_469 : Index := 1#32
  let c160_470 : Index := 160#32
  let c0_471 : Index := 0#32
  ![v852.toNat, 1, 160, 0]
def k0_off104 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v860 : Index := Scalar.indexCast v9
  let c4_474 : Index := 4#32
  let c160_475 : Index := 160#32
  let c0_476 : Index := 0#32
  ![v860.toNat, 4, 160, 0]
def k0_off105 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v868 : Index := Scalar.indexCast v9
  let c3_478 : Index := 3#32
  let c160_479 : Index := 160#32
  let c0_480 : Index := 0#32
  ![v868.toNat, 3, 160, 0]
def k0_off106 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v876 : Index := Scalar.indexCast v9
  let c6_483 : Index := 6#32
  let c160_484 : Index := 160#32
  let c0_485 : Index := 0#32
  ![v876.toNat, 6, 160, 0]
def k0_off107 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v884 : Index := Scalar.indexCast v9
  let c5_487 : Index := 5#32
  let c160_488 : Index := 160#32
  let c0_489 : Index := 0#32
  ![v884.toNat, 5, 160, 0]
def k0_off108 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v892 : Index := Scalar.indexCast v9
  let c8_492 : Index := 8#32
  let c160_493 : Index := 160#32
  let c0_494 : Index := 0#32
  ![v892.toNat, 8, 160, 0]
def k0_off109 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v900 : Index := Scalar.indexCast v9
  let c7_496 : Index := 7#32
  let c160_497 : Index := 160#32
  let c0_498 : Index := 0#32
  ![v900.toNat, 7, 160, 0]
def k0_off110 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v908 : Index := Scalar.indexCast v9
  let c10_501 : Index := 10#32
  let c160_502 : Index := 160#32
  let c0_503 : Index := 0#32
  ![v908.toNat, 10, 160, 0]
def k0_off111 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v916 : Index := Scalar.indexCast v9
  let c9_505 : Index := 9#32
  let c160_506 : Index := 160#32
  let c0_507 : Index := 0#32
  ![v916.toNat, 9, 160, 0]
def k0_off112 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v924 : Index := Scalar.indexCast v9
  let c12_510 : Index := 12#32
  let c160_511 : Index := 160#32
  let c0_512 : Index := 0#32
  ![v924.toNat, 12, 160, 0]
def k0_off113 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v932 : Index := Scalar.indexCast v9
  let c11_514 : Index := 11#32
  let c160_515 : Index := 160#32
  let c0_516 : Index := 0#32
  ![v932.toNat, 11, 160, 0]
def k0_off114 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v940 : Index := Scalar.indexCast v9
  let c14_519 : Index := 14#32
  let c160_520 : Index := 160#32
  let c0_521 : Index := 0#32
  ![v940.toNat, 14, 160, 0]
def k0_off115 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v948 : Index := Scalar.indexCast v9
  let c13_523 : Index := 13#32
  let c160_524 : Index := 160#32
  let c0_525 : Index := 0#32
  ![v948.toNat, 13, 160, 0]
def k0_off116 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v956 : Index := Scalar.indexCast v9
  let c16_528 : Index := 16#32
  let c160_529 : Index := 160#32
  let c0_530 : Index := 0#32
  ![v956.toNat, 16, 160, 0]
def k0_off117 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v964 : Index := Scalar.indexCast v9
  let c15_532 : Index := 15#32
  let c160_533 : Index := 160#32
  let c0_534 : Index := 0#32
  ![v964.toNat, 15, 160, 0]
def k0_off118 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v972 : Index := Scalar.indexCast v9
  let c18_537 : Index := 18#32
  let c160_538 : Index := 160#32
  let c0_539 : Index := 0#32
  ![v972.toNat, 18, 160, 0]
def k0_off119 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v980 : Index := Scalar.indexCast v9
  let c17_541 : Index := 17#32
  let c160_542 : Index := 160#32
  let c0_543 : Index := 0#32
  ![v980.toNat, 17, 160, 0]
def k0_off120 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v990 : Index := Scalar.indexCast v9
  let c19_547 : Index := 19#32
  let c160_548 : Index := 160#32
  let c0_549 : Index := 0#32
  ![v990.toNat, 19, 160, 0]
def k0_off121 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v998 : Index := Scalar.indexCast v9
  let c0_552 : Index := 0#32
  let c192 : Index := 192#32
  let c0_553 : Index := 0#32
  ![v998.toNat, 0, 192, 0]
def k0_off122 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1007 : Index := Scalar.indexCast v9
  let c2_557 : Index := 2#32
  let c192_558 : Index := 192#32
  let c0_559 : Index := 0#32
  ![v1007.toNat, 2, 192, 0]
def k0_off123 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1015 : Index := Scalar.indexCast v9
  let c1_561 : Index := 1#32
  let c192_562 : Index := 192#32
  let c0_563 : Index := 0#32
  ![v1015.toNat, 1, 192, 0]
def k0_off124 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1023 : Index := Scalar.indexCast v9
  let c4_566 : Index := 4#32
  let c192_567 : Index := 192#32
  let c0_568 : Index := 0#32
  ![v1023.toNat, 4, 192, 0]
def k0_off125 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1031 : Index := Scalar.indexCast v9
  let c3_570 : Index := 3#32
  let c192_571 : Index := 192#32
  let c0_572 : Index := 0#32
  ![v1031.toNat, 3, 192, 0]
def k0_off126 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1039 : Index := Scalar.indexCast v9
  let c6_575 : Index := 6#32
  let c192_576 : Index := 192#32
  let c0_577 : Index := 0#32
  ![v1039.toNat, 6, 192, 0]
def k0_off127 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1047 : Index := Scalar.indexCast v9
  let c5_579 : Index := 5#32
  let c192_580 : Index := 192#32
  let c0_581 : Index := 0#32
  ![v1047.toNat, 5, 192, 0]
def k0_off128 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1055 : Index := Scalar.indexCast v9
  let c8_584 : Index := 8#32
  let c192_585 : Index := 192#32
  let c0_586 : Index := 0#32
  ![v1055.toNat, 8, 192, 0]
def k0_off129 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1063 : Index := Scalar.indexCast v9
  let c7_588 : Index := 7#32
  let c192_589 : Index := 192#32
  let c0_590 : Index := 0#32
  ![v1063.toNat, 7, 192, 0]
def k0_off130 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1071 : Index := Scalar.indexCast v9
  let c10_593 : Index := 10#32
  let c192_594 : Index := 192#32
  let c0_595 : Index := 0#32
  ![v1071.toNat, 10, 192, 0]
def k0_off131 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1079 : Index := Scalar.indexCast v9
  let c9_597 : Index := 9#32
  let c192_598 : Index := 192#32
  let c0_599 : Index := 0#32
  ![v1079.toNat, 9, 192, 0]
def k0_off132 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1087 : Index := Scalar.indexCast v9
  let c12_602 : Index := 12#32
  let c192_603 : Index := 192#32
  let c0_604 : Index := 0#32
  ![v1087.toNat, 12, 192, 0]
def k0_off133 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1095 : Index := Scalar.indexCast v9
  let c11_606 : Index := 11#32
  let c192_607 : Index := 192#32
  let c0_608 : Index := 0#32
  ![v1095.toNat, 11, 192, 0]
def k0_off134 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1103 : Index := Scalar.indexCast v9
  let c14_611 : Index := 14#32
  let c192_612 : Index := 192#32
  let c0_613 : Index := 0#32
  ![v1103.toNat, 14, 192, 0]
def k0_off135 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1111 : Index := Scalar.indexCast v9
  let c13_615 : Index := 13#32
  let c192_616 : Index := 192#32
  let c0_617 : Index := 0#32
  ![v1111.toNat, 13, 192, 0]
def k0_off136 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1119 : Index := Scalar.indexCast v9
  let c16_620 : Index := 16#32
  let c192_621 : Index := 192#32
  let c0_622 : Index := 0#32
  ![v1119.toNat, 16, 192, 0]
def k0_off137 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1127 : Index := Scalar.indexCast v9
  let c15_624 : Index := 15#32
  let c192_625 : Index := 192#32
  let c0_626 : Index := 0#32
  ![v1127.toNat, 15, 192, 0]
def k0_off138 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1135 : Index := Scalar.indexCast v9
  let c18_629 : Index := 18#32
  let c192_630 : Index := 192#32
  let c0_631 : Index := 0#32
  ![v1135.toNat, 18, 192, 0]
def k0_off139 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1143 : Index := Scalar.indexCast v9
  let c17_633 : Index := 17#32
  let c192_634 : Index := 192#32
  let c0_635 : Index := 0#32
  ![v1143.toNat, 17, 192, 0]
def k0_off140 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1153 : Index := Scalar.indexCast v9
  let c19_639 : Index := 19#32
  let c192_640 : Index := 192#32
  let c0_641 : Index := 0#32
  ![v1153.toNat, 19, 192, 0]
def k0_off141 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1161 : Index := Scalar.indexCast v9
  let c0_644 : Index := 0#32
  let c224 : Index := 224#32
  let c0_645 : Index := 0#32
  ![v1161.toNat, 0, 224, 0]
def k0_off142 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1170 : Index := Scalar.indexCast v9
  let c2_649 : Index := 2#32
  let c224_650 : Index := 224#32
  let c0_651 : Index := 0#32
  ![v1170.toNat, 2, 224, 0]
def k0_off143 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1178 : Index := Scalar.indexCast v9
  let c1_653 : Index := 1#32
  let c224_654 : Index := 224#32
  let c0_655 : Index := 0#32
  ![v1178.toNat, 1, 224, 0]
def k0_off144 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1186 : Index := Scalar.indexCast v9
  let c4_658 : Index := 4#32
  let c224_659 : Index := 224#32
  let c0_660 : Index := 0#32
  ![v1186.toNat, 4, 224, 0]
def k0_off145 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1194 : Index := Scalar.indexCast v9
  let c3_662 : Index := 3#32
  let c224_663 : Index := 224#32
  let c0_664 : Index := 0#32
  ![v1194.toNat, 3, 224, 0]
def k0_off146 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1202 : Index := Scalar.indexCast v9
  let c6_667 : Index := 6#32
  let c224_668 : Index := 224#32
  let c0_669 : Index := 0#32
  ![v1202.toNat, 6, 224, 0]
def k0_off147 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1210 : Index := Scalar.indexCast v9
  let c5_671 : Index := 5#32
  let c224_672 : Index := 224#32
  let c0_673 : Index := 0#32
  ![v1210.toNat, 5, 224, 0]
def k0_off148 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1218 : Index := Scalar.indexCast v9
  let c8_676 : Index := 8#32
  let c224_677 : Index := 224#32
  let c0_678 : Index := 0#32
  ![v1218.toNat, 8, 224, 0]
def k0_off149 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1226 : Index := Scalar.indexCast v9
  let c7_680 : Index := 7#32
  let c224_681 : Index := 224#32
  let c0_682 : Index := 0#32
  ![v1226.toNat, 7, 224, 0]
def k0_off150 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1234 : Index := Scalar.indexCast v9
  let c10_685 : Index := 10#32
  let c224_686 : Index := 224#32
  let c0_687 : Index := 0#32
  ![v1234.toNat, 10, 224, 0]
def k0_off151 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1242 : Index := Scalar.indexCast v9
  let c9_689 : Index := 9#32
  let c224_690 : Index := 224#32
  let c0_691 : Index := 0#32
  ![v1242.toNat, 9, 224, 0]
def k0_off152 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1250 : Index := Scalar.indexCast v9
  let c12_694 : Index := 12#32
  let c224_695 : Index := 224#32
  let c0_696 : Index := 0#32
  ![v1250.toNat, 12, 224, 0]
def k0_off153 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1258 : Index := Scalar.indexCast v9
  let c11_698 : Index := 11#32
  let c224_699 : Index := 224#32
  let c0_700 : Index := 0#32
  ![v1258.toNat, 11, 224, 0]
def k0_off154 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1266 : Index := Scalar.indexCast v9
  let c14_703 : Index := 14#32
  let c224_704 : Index := 224#32
  let c0_705 : Index := 0#32
  ![v1266.toNat, 14, 224, 0]
def k0_off155 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1274 : Index := Scalar.indexCast v9
  let c13_707 : Index := 13#32
  let c224_708 : Index := 224#32
  let c0_709 : Index := 0#32
  ![v1274.toNat, 13, 224, 0]
def k0_off156 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1282 : Index := Scalar.indexCast v9
  let c16_712 : Index := 16#32
  let c224_713 : Index := 224#32
  let c0_714 : Index := 0#32
  ![v1282.toNat, 16, 224, 0]
def k0_off157 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1290 : Index := Scalar.indexCast v9
  let c15_716 : Index := 15#32
  let c224_717 : Index := 224#32
  let c0_718 : Index := 0#32
  ![v1290.toNat, 15, 224, 0]
def k0_off158 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1298 : Index := Scalar.indexCast v9
  let c18_721 : Index := 18#32
  let c224_722 : Index := 224#32
  let c0_723 : Index := 0#32
  ![v1298.toNat, 18, 224, 0]
def k0_off159 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1306 : Index := Scalar.indexCast v9
  let c17_725 : Index := 17#32
  let c224_726 : Index := 224#32
  let c0_727 : Index := 0#32
  ![v1306.toNat, 17, 224, 0]
def k0_off160 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1316 : Index := Scalar.indexCast v9
  let c19_731 : Index := 19#32
  let c224_732 : Index := 224#32
  let c0_733 : Index := 0#32
  ![v1316.toNat, 19, 224, 0]
def k0_off161 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1324 : Index := Scalar.indexCast v9
  let c0_736 : Index := 0#32
  let c256 : Index := 256#32
  let c0_737 : Index := 0#32
  ![v1324.toNat, 0, 256, 0]
def k0_off162 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1333 : Index := Scalar.indexCast v9
  let c2_741 : Index := 2#32
  let c256_742 : Index := 256#32
  let c0_743 : Index := 0#32
  ![v1333.toNat, 2, 256, 0]
def k0_off163 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1341 : Index := Scalar.indexCast v9
  let c1_745 : Index := 1#32
  let c256_746 : Index := 256#32
  let c0_747 : Index := 0#32
  ![v1341.toNat, 1, 256, 0]
def k0_off164 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1349 : Index := Scalar.indexCast v9
  let c4_750 : Index := 4#32
  let c256_751 : Index := 256#32
  let c0_752 : Index := 0#32
  ![v1349.toNat, 4, 256, 0]
def k0_off165 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1357 : Index := Scalar.indexCast v9
  let c3_754 : Index := 3#32
  let c256_755 : Index := 256#32
  let c0_756 : Index := 0#32
  ![v1357.toNat, 3, 256, 0]
def k0_off166 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1365 : Index := Scalar.indexCast v9
  let c6_759 : Index := 6#32
  let c256_760 : Index := 256#32
  let c0_761 : Index := 0#32
  ![v1365.toNat, 6, 256, 0]
def k0_off167 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1373 : Index := Scalar.indexCast v9
  let c5_763 : Index := 5#32
  let c256_764 : Index := 256#32
  let c0_765 : Index := 0#32
  ![v1373.toNat, 5, 256, 0]
def k0_off168 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1381 : Index := Scalar.indexCast v9
  let c8_768 : Index := 8#32
  let c256_769 : Index := 256#32
  let c0_770 : Index := 0#32
  ![v1381.toNat, 8, 256, 0]
def k0_off169 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1389 : Index := Scalar.indexCast v9
  let c7_772 : Index := 7#32
  let c256_773 : Index := 256#32
  let c0_774 : Index := 0#32
  ![v1389.toNat, 7, 256, 0]
def k0_off170 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1397 : Index := Scalar.indexCast v9
  let c10_777 : Index := 10#32
  let c256_778 : Index := 256#32
  let c0_779 : Index := 0#32
  ![v1397.toNat, 10, 256, 0]
def k0_off171 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1405 : Index := Scalar.indexCast v9
  let c9_781 : Index := 9#32
  let c256_782 : Index := 256#32
  let c0_783 : Index := 0#32
  ![v1405.toNat, 9, 256, 0]
def k0_off172 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1413 : Index := Scalar.indexCast v9
  let c12_786 : Index := 12#32
  let c256_787 : Index := 256#32
  let c0_788 : Index := 0#32
  ![v1413.toNat, 12, 256, 0]
def k0_off173 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1421 : Index := Scalar.indexCast v9
  let c11_790 : Index := 11#32
  let c256_791 : Index := 256#32
  let c0_792 : Index := 0#32
  ![v1421.toNat, 11, 256, 0]
def k0_off174 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1429 : Index := Scalar.indexCast v9
  let c14_795 : Index := 14#32
  let c256_796 : Index := 256#32
  let c0_797 : Index := 0#32
  ![v1429.toNat, 14, 256, 0]
def k0_off175 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1437 : Index := Scalar.indexCast v9
  let c13_799 : Index := 13#32
  let c256_800 : Index := 256#32
  let c0_801 : Index := 0#32
  ![v1437.toNat, 13, 256, 0]
def k0_off176 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1445 : Index := Scalar.indexCast v9
  let c16_804 : Index := 16#32
  let c256_805 : Index := 256#32
  let c0_806 : Index := 0#32
  ![v1445.toNat, 16, 256, 0]
def k0_off177 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1453 : Index := Scalar.indexCast v9
  let c15_808 : Index := 15#32
  let c256_809 : Index := 256#32
  let c0_810 : Index := 0#32
  ![v1453.toNat, 15, 256, 0]
def k0_off178 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1461 : Index := Scalar.indexCast v9
  let c18_813 : Index := 18#32
  let c256_814 : Index := 256#32
  let c0_815 : Index := 0#32
  ![v1461.toNat, 18, 256, 0]
def k0_off179 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1469 : Index := Scalar.indexCast v9
  let c17_817 : Index := 17#32
  let c256_818 : Index := 256#32
  let c0_819 : Index := 0#32
  ![v1469.toNat, 17, 256, 0]
def k0_off180 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1479 : Index := Scalar.indexCast v9
  let c19_823 : Index := 19#32
  let c256_824 : Index := 256#32
  let c0_825 : Index := 0#32
  ![v1479.toNat, 19, 256, 0]
def k0_cond2 (i : grid0.Coords) : BitVec 1 :=
  let arg0 : BitVec 32 := BitVec.ofNat 32 (i 0).val
  let c0_i32_826 : BitVec 32 := 0#32
  let v1483 : BitVec 1 := Scalar.cmpi .sgt arg0 c0_i32_826
  let v1484 : BitVec 32 := Scalar.extui v1483
  let c0_i32_827 : BitVec 32 := 0#32
  let v1485 : BitVec 1 := Scalar.cmpi .ne v1484 c0_i32_827
  v1485

def k0_off181 (i : grid0.Coords) : Fin 4 → Nat :=
  let c1_i32_832 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1490 : BitVec 32 := Scalar.subi c1_i32_832 v9
  let v1491 : Index := Scalar.indexCast v1490
  let c0_833 : Index := 0#32
  let c0_834 : Index := 0#32
  let c0_835 : Index := 0#32
  ![v1491.toNat, 0, 0, 0]
def k0_off182 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1494 : Index := Scalar.indexCast v9
  let c0_836 : Index := 0#32
  let c0_837 : Index := 0#32
  let c0_838 : Index := 0#32
  ![v1494.toNat, 0, 0, 0]
def k0_off183 (i : grid0.Coords) : Fin 4 → Nat :=
  let c1_i32_850 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1515 : BitVec 32 := Scalar.subi c1_i32_850 v9
  let v1516 : Index := Scalar.indexCast v1515
  let c1_851 : Index := 1#32
  let c0_852 : Index := 0#32
  let c0_853 : Index := 0#32
  ![v1516.toNat, 1, 0, 0]
def k0_off184 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1519 : Index := Scalar.indexCast v9
  let c1_854 : Index := 1#32
  let c0_855 : Index := 0#32
  let c0_856 : Index := 0#32
  ![v1519.toNat, 1, 0, 0]
def k0_off185 (i : grid0.Coords) : Fin 4 → Nat :=
  let c1_i32_869 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1540 : BitVec 32 := Scalar.subi c1_i32_869 v9
  let v1541 : Index := Scalar.indexCast v1540
  let c2_870 : Index := 2#32
  let c0_871 : Index := 0#32
  let c0_872 : Index := 0#32
  ![v1541.toNat, 2, 0, 0]
def k0_off186 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1544 : Index := Scalar.indexCast v9
  let c2_873 : Index := 2#32
  let c0_874 : Index := 0#32
  let c0_875 : Index := 0#32
  ![v1544.toNat, 2, 0, 0]
def k0_off187 (i : grid0.Coords) : Fin 4 → Nat :=
  let c1_i32_888 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1565 : BitVec 32 := Scalar.subi c1_i32_888 v9
  let v1566 : Index := Scalar.indexCast v1565
  let c3_889 : Index := 3#32
  let c0_890 : Index := 0#32
  let c0_891 : Index := 0#32
  ![v1566.toNat, 3, 0, 0]
def k0_off188 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1569 : Index := Scalar.indexCast v9
  let c3_892 : Index := 3#32
  let c0_893 : Index := 0#32
  let c0_894 : Index := 0#32
  ![v1569.toNat, 3, 0, 0]
def k0_off189 (i : grid0.Coords) : Fin 4 → Nat :=
  let c1_i32_907 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1590 : BitVec 32 := Scalar.subi c1_i32_907 v9
  let v1591 : Index := Scalar.indexCast v1590
  let c4_908 : Index := 4#32
  let c0_909 : Index := 0#32
  let c0_910 : Index := 0#32
  ![v1591.toNat, 4, 0, 0]
def k0_off190 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1594 : Index := Scalar.indexCast v9
  let c4_911 : Index := 4#32
  let c0_912 : Index := 0#32
  let c0_913 : Index := 0#32
  ![v1594.toNat, 4, 0, 0]
def k0_off191 (i : grid0.Coords) : Fin 4 → Nat :=
  let c1_i32_926 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1615 : BitVec 32 := Scalar.subi c1_i32_926 v9
  let v1616 : Index := Scalar.indexCast v1615
  let c5_927 : Index := 5#32
  let c0_928 : Index := 0#32
  let c0_929 : Index := 0#32
  ![v1616.toNat, 5, 0, 0]
def k0_off192 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1619 : Index := Scalar.indexCast v9
  let c5_930 : Index := 5#32
  let c0_931 : Index := 0#32
  let c0_932 : Index := 0#32
  ![v1619.toNat, 5, 0, 0]
def k0_off193 (i : grid0.Coords) : Fin 4 → Nat :=
  let c1_i32_945 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1640 : BitVec 32 := Scalar.subi c1_i32_945 v9
  let v1641 : Index := Scalar.indexCast v1640
  let c6_946 : Index := 6#32
  let c0_947 : Index := 0#32
  let c0_948 : Index := 0#32
  ![v1641.toNat, 6, 0, 0]
def k0_off194 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1644 : Index := Scalar.indexCast v9
  let c6_949 : Index := 6#32
  let c0_950 : Index := 0#32
  let c0_951 : Index := 0#32
  ![v1644.toNat, 6, 0, 0]
def k0_off195 (i : grid0.Coords) : Fin 4 → Nat :=
  let c1_i32_964 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1665 : BitVec 32 := Scalar.subi c1_i32_964 v9
  let v1666 : Index := Scalar.indexCast v1665
  let c7_965 : Index := 7#32
  let c0_966 : Index := 0#32
  let c0_967 : Index := 0#32
  ![v1666.toNat, 7, 0, 0]
def k0_off196 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1669 : Index := Scalar.indexCast v9
  let c7_968 : Index := 7#32
  let c0_969 : Index := 0#32
  let c0_970 : Index := 0#32
  ![v1669.toNat, 7, 0, 0]
def k0_off197 (i : grid0.Coords) : Fin 4 → Nat :=
  let c1_i32_983 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1690 : BitVec 32 := Scalar.subi c1_i32_983 v9
  let v1691 : Index := Scalar.indexCast v1690
  let c8_984 : Index := 8#32
  let c0_985 : Index := 0#32
  let c0_986 : Index := 0#32
  ![v1691.toNat, 8, 0, 0]
def k0_off198 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1694 : Index := Scalar.indexCast v9
  let c8_987 : Index := 8#32
  let c0_988 : Index := 0#32
  let c0_989 : Index := 0#32
  ![v1694.toNat, 8, 0, 0]
def k0_off199 (i : grid0.Coords) : Fin 4 → Nat :=
  let c1_i32_1002 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1715 : BitVec 32 := Scalar.subi c1_i32_1002 v9
  let v1716 : Index := Scalar.indexCast v1715
  let c9_1003 : Index := 9#32
  let c0_1004 : Index := 0#32
  let c0_1005 : Index := 0#32
  ![v1716.toNat, 9, 0, 0]
def k0_off200 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1719 : Index := Scalar.indexCast v9
  let c9_1006 : Index := 9#32
  let c0_1007 : Index := 0#32
  let c0_1008 : Index := 0#32
  ![v1719.toNat, 9, 0, 0]
def k0_off201 (i : grid0.Coords) : Fin 4 → Nat :=
  let c1_i32_1021 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1740 : BitVec 32 := Scalar.subi c1_i32_1021 v9
  let v1741 : Index := Scalar.indexCast v1740
  let c10_1022 : Index := 10#32
  let c0_1023 : Index := 0#32
  let c0_1024 : Index := 0#32
  ![v1741.toNat, 10, 0, 0]
def k0_off202 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1744 : Index := Scalar.indexCast v9
  let c10_1025 : Index := 10#32
  let c0_1026 : Index := 0#32
  let c0_1027 : Index := 0#32
  ![v1744.toNat, 10, 0, 0]
def k0_off203 (i : grid0.Coords) : Fin 4 → Nat :=
  let c1_i32_1040 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1765 : BitVec 32 := Scalar.subi c1_i32_1040 v9
  let v1766 : Index := Scalar.indexCast v1765
  let c11_1041 : Index := 11#32
  let c0_1042 : Index := 0#32
  let c0_1043 : Index := 0#32
  ![v1766.toNat, 11, 0, 0]
def k0_off204 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1769 : Index := Scalar.indexCast v9
  let c11_1044 : Index := 11#32
  let c0_1045 : Index := 0#32
  let c0_1046 : Index := 0#32
  ![v1769.toNat, 11, 0, 0]
def k0_off205 (i : grid0.Coords) : Fin 4 → Nat :=
  let c1_i32_1059 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1790 : BitVec 32 := Scalar.subi c1_i32_1059 v9
  let v1791 : Index := Scalar.indexCast v1790
  let c12_1060 : Index := 12#32
  let c0_1061 : Index := 0#32
  let c0_1062 : Index := 0#32
  ![v1791.toNat, 12, 0, 0]
def k0_off206 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1794 : Index := Scalar.indexCast v9
  let c12_1063 : Index := 12#32
  let c0_1064 : Index := 0#32
  let c0_1065 : Index := 0#32
  ![v1794.toNat, 12, 0, 0]
def k0_off207 (i : grid0.Coords) : Fin 4 → Nat :=
  let c1_i32_1078 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1815 : BitVec 32 := Scalar.subi c1_i32_1078 v9
  let v1816 : Index := Scalar.indexCast v1815
  let c13_1079 : Index := 13#32
  let c0_1080 : Index := 0#32
  let c0_1081 : Index := 0#32
  ![v1816.toNat, 13, 0, 0]
def k0_off208 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1819 : Index := Scalar.indexCast v9
  let c13_1082 : Index := 13#32
  let c0_1083 : Index := 0#32
  let c0_1084 : Index := 0#32
  ![v1819.toNat, 13, 0, 0]
def k0_off209 (i : grid0.Coords) : Fin 4 → Nat :=
  let c1_i32_1097 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1840 : BitVec 32 := Scalar.subi c1_i32_1097 v9
  let v1841 : Index := Scalar.indexCast v1840
  let c14_1098 : Index := 14#32
  let c0_1099 : Index := 0#32
  let c0_1100 : Index := 0#32
  ![v1841.toNat, 14, 0, 0]
def k0_off210 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1844 : Index := Scalar.indexCast v9
  let c14_1101 : Index := 14#32
  let c0_1102 : Index := 0#32
  let c0_1103 : Index := 0#32
  ![v1844.toNat, 14, 0, 0]
def k0_off211 (i : grid0.Coords) : Fin 4 → Nat :=
  let c1_i32_1116 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1865 : BitVec 32 := Scalar.subi c1_i32_1116 v9
  let v1866 : Index := Scalar.indexCast v1865
  let c15_1117 : Index := 15#32
  let c0_1118 : Index := 0#32
  let c0_1119 : Index := 0#32
  ![v1866.toNat, 15, 0, 0]
def k0_off212 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1869 : Index := Scalar.indexCast v9
  let c15_1120 : Index := 15#32
  let c0_1121 : Index := 0#32
  let c0_1122 : Index := 0#32
  ![v1869.toNat, 15, 0, 0]
def k0_off213 (i : grid0.Coords) : Fin 4 → Nat :=
  let c1_i32_1135 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1890 : BitVec 32 := Scalar.subi c1_i32_1135 v9
  let v1891 : Index := Scalar.indexCast v1890
  let c16_1136 : Index := 16#32
  let c0_1137 : Index := 0#32
  let c0_1138 : Index := 0#32
  ![v1891.toNat, 16, 0, 0]
def k0_off214 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1894 : Index := Scalar.indexCast v9
  let c16_1139 : Index := 16#32
  let c0_1140 : Index := 0#32
  let c0_1141 : Index := 0#32
  ![v1894.toNat, 16, 0, 0]
def k0_off215 (i : grid0.Coords) : Fin 4 → Nat :=
  let c1_i32_1154 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1915 : BitVec 32 := Scalar.subi c1_i32_1154 v9
  let v1916 : Index := Scalar.indexCast v1915
  let c17_1155 : Index := 17#32
  let c0_1156 : Index := 0#32
  let c0_1157 : Index := 0#32
  ![v1916.toNat, 17, 0, 0]
def k0_off216 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1919 : Index := Scalar.indexCast v9
  let c17_1158 : Index := 17#32
  let c0_1159 : Index := 0#32
  let c0_1160 : Index := 0#32
  ![v1919.toNat, 17, 0, 0]
def k0_off217 (i : grid0.Coords) : Fin 4 → Nat :=
  let c1_i32_1173 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1940 : BitVec 32 := Scalar.subi c1_i32_1173 v9
  let v1941 : Index := Scalar.indexCast v1940
  let c18_1174 : Index := 18#32
  let c0_1175 : Index := 0#32
  let c0_1176 : Index := 0#32
  ![v1941.toNat, 18, 0, 0]
def k0_off218 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1944 : Index := Scalar.indexCast v9
  let c18_1177 : Index := 18#32
  let c0_1178 : Index := 0#32
  let c0_1179 : Index := 0#32
  ![v1944.toNat, 18, 0, 0]
def k0_off219 (i : grid0.Coords) : Fin 4 → Nat :=
  let c1_i32_1192 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1965 : BitVec 32 := Scalar.subi c1_i32_1192 v9
  let v1966 : Index := Scalar.indexCast v1965
  let c19_1193 : Index := 19#32
  let c0_1194 : Index := 0#32
  let c0_1195 : Index := 0#32
  ![v1966.toNat, 19, 0, 0]
def k0_off220 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1969 : Index := Scalar.indexCast v9
  let c19_1196 : Index := 19#32
  let c0_1197 : Index := 0#32
  let c0_1198 : Index := 0#32
  ![v1969.toNat, 19, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  let c0_i32_3 : BitVec 32 := 0#32
  ![v1.toNat, c0_i32_0.toNat, c0_i32_1.toNat, c0_i32_2.toNat]

def cc0_transform_5 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  let c0_i32_3 : BitVec 32 := 0#32
  ![v1.toNat, c0_i32_0.toNat, c0_i32_1.toNat, c0_i32_2.toNat]

abbrev stage0_0 : Fin 2 → Memref sig .tc .vmem S1x792x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x160 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x160 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x160 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x20x144x160 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x20x144x160 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S2128896 : Shape := ⟨1, ![2128896]⟩
abbrev S8x8x4x160 : Shape := ⟨4, ![8, 8, 4, 160]⟩
abbrev S160 : Shape := ⟨1, ![160]⟩
abbrev S21x2x36x1408 : Shape := ⟨4, ![21, 2, 36, 1408]⟩
abbrev S21x2x36x1344 : Shape := ⟨4, ![21, 2, 36, 1344]⟩
abbrev S21x2x36x21x4x4x4 : Shape := ⟨7, ![21, 2, 36, 21, 4, 4, 4]⟩
abbrev S21x2x36x21x4x4x4x4 : Shape := ⟨8, ![21, 2, 36, 21, 4, 4, 4, 4]⟩
abbrev S2x36x4x4x21x4x21x4 : Shape := ⟨8, ![2, 36, 4, 4, 21, 4, 21, 4]⟩
abbrev S2x144x4x84x84 : Shape := ⟨5, ![2, 144, 4, 84, 84]⟩
abbrev S1x144x4x84x84 : Shape := ⟨5, ![1, 144, 4, 84, 84]⟩
abbrev S144x4x84x84 : Shape := ⟨4, ![144, 4, 84, 84]⟩
abbrev S144x4x20x84 : Shape := ⟨4, ![144, 4, 20, 84]⟩
abbrev S1x144x4x20x84 : Shape := ⟨5, ![1, 144, 4, 20, 84]⟩
abbrev S8x144x4x20x84 : Shape := ⟨5, ![8, 144, 4, 20, 84]⟩
abbrev S8x144x4x20x20 : Shape := ⟨5, ![8, 144, 4, 20, 20]⟩
abbrev S1x8x144x4x20x20 : Shape := ⟨6, ![1, 8, 144, 4, 20, 20]⟩
abbrev S8x8x144x4x20x20 : Shape := ⟨6, ![8, 8, 144, 4, 20, 20]⟩
abbrev S144x20x20x160 : Shape := ⟨4, ![144, 20, 20, 160]⟩
abbrev S1x1x1x160 : Shape := ⟨4, ![1, 1, 1, 160]⟩
abbrev S_ : Shape := ⟨0, ![]⟩

abbrev nBuf : Space → Nat
  | .hbm => 111
  | .vmem => 2
  | .smem => 0
  | _ => 0

abbrev bufTy : (tb : Table) → Fin (tcTables nBuf tb) → BufTy
  | .hbm, ⟨0, _⟩ => ⟨S2128896, .i32⟩
  | .hbm, ⟨1, _⟩ => ⟨S8x8x4x160, .fp8e4m3⟩
  | .hbm, ⟨2, _⟩ => ⟨S160, .f32⟩
  | .hbm, ⟨3, _⟩ => ⟨S160, .f32⟩
  | .hbm, ⟨4, _⟩ => ⟨S8x8x4x160, .bf16⟩
  | .hbm, ⟨5, _⟩ => ⟨S21x2x36x1408, .i32⟩
  | .hbm, ⟨6, _⟩ => ⟨S21x2x36x1344, .i32⟩
  | .hbm, ⟨7, _⟩ => ⟨S21x2x36x21x4x4x4, .i32⟩
  | .hbm, ⟨8, _⟩ => ⟨S21x2x36x21x4x4x4x4, .i8⟩
  | .hbm, ⟨9, _⟩ => ⟨S2x36x4x4x21x4x21x4, .i8⟩
  | .hbm, ⟨10, _⟩ => ⟨S2x144x4x84x84, .i8⟩
  | .hbm, ⟨11, _⟩ => ⟨S1x144x4x84x84, .i8⟩
  | .hbm, ⟨12, _⟩ => ⟨S144x4x84x84, .i8⟩
  | .hbm, ⟨13, _⟩ => ⟨S144x4x84x84, .i32⟩
  | .hbm, ⟨14, _⟩ => ⟨S144x4x84x84, .f32⟩
  | .hbm, ⟨15, _⟩ => ⟨S144x4x84x84, .bf16⟩
  | .hbm, ⟨16, _⟩ => ⟨S144x4x20x84, .bf16⟩
  | .hbm, ⟨17, _⟩ => ⟨S144x4x20x84, .bf16⟩
  | .hbm, ⟨18, _⟩ => ⟨S144x4x20x84, .bf16⟩
  | .hbm, ⟨19, _⟩ => ⟨S144x4x20x84, .bf16⟩
  | .hbm, ⟨20, _⟩ => ⟨S144x4x20x84, .bf16⟩
  | .hbm, ⟨21, _⟩ => ⟨S144x4x20x84, .bf16⟩
  | .hbm, ⟨22, _⟩ => ⟨S144x4x20x84, .bf16⟩
  | .hbm, ⟨23, _⟩ => ⟨S144x4x20x84, .bf16⟩
  | .hbm, ⟨24, _⟩ => ⟨S1x144x4x20x84, .bf16⟩
  | .hbm, ⟨25, _⟩ => ⟨S1x144x4x20x84, .bf16⟩
  | .hbm, ⟨26, _⟩ => ⟨S1x144x4x20x84, .bf16⟩
  | .hbm, ⟨27, _⟩ => ⟨S1x144x4x20x84, .bf16⟩
  | .hbm, ⟨28, _⟩ => ⟨S1x144x4x20x84, .bf16⟩
  | .hbm, ⟨29, _⟩ => ⟨S1x144x4x20x84, .bf16⟩
  | .hbm, ⟨30, _⟩ => ⟨S1x144x4x20x84, .bf16⟩
  | .hbm, ⟨31, _⟩ => ⟨S1x144x4x20x84, .bf16⟩
  | .hbm, ⟨32, _⟩ => ⟨S8x144x4x20x84, .bf16⟩
  | .hbm, ⟨33, _⟩ => ⟨S8x144x4x20x20, .bf16⟩
  | .hbm, ⟨34, _⟩ => ⟨S8x144x4x20x20, .bf16⟩
  | .hbm, ⟨35, _⟩ => ⟨S8x144x4x20x20, .bf16⟩
  | .hbm, ⟨36, _⟩ => ⟨S8x144x4x20x20, .bf16⟩
  | .hbm, ⟨37, _⟩ => ⟨S8x144x4x20x20, .bf16⟩
  | .hbm, ⟨38, _⟩ => ⟨S8x144x4x20x20, .bf16⟩
  | .hbm, ⟨39, _⟩ => ⟨S8x144x4x20x20, .bf16⟩
  | .hbm, ⟨40, _⟩ => ⟨S8x144x4x20x20, .bf16⟩
  | .hbm, ⟨41, _⟩ => ⟨S1x8x144x4x20x20, .bf16⟩
  | .hbm, ⟨42, _⟩ => ⟨S1x8x144x4x20x20, .bf16⟩
  | .hbm, ⟨43, _⟩ => ⟨S1x8x144x4x20x20, .bf16⟩
  | .hbm, ⟨44, _⟩ => ⟨S1x8x144x4x20x20, .bf16⟩
  | .hbm, ⟨45, _⟩ => ⟨S1x8x144x4x20x20, .bf16⟩
  | .hbm, ⟨46, _⟩ => ⟨S1x8x144x4x20x20, .bf16⟩
  | .hbm, ⟨47, _⟩ => ⟨S1x8x144x4x20x20, .bf16⟩
  | .hbm, ⟨48, _⟩ => ⟨S1x8x144x4x20x20, .bf16⟩
  | .hbm, ⟨49, _⟩ => ⟨S8x8x144x4x20x20, .bf16⟩
  | .hbm, ⟨50, _⟩ => ⟨S144x20x20x160, .f32⟩
  | .hbm, ⟨51, _⟩ => ⟨S1x1x1x160, .f32⟩
  | .hbm, ⟨52, _⟩ => ⟨S144x20x20x160, .f32⟩
  | .hbm, ⟨53, _⟩ => ⟨S144x20x20x160, .f32⟩
  | .hbm, ⟨54, _⟩ => ⟨S1x1x1x160, .f32⟩
  | .hbm, ⟨55, _⟩ => ⟨S144x20x20x160, .f32⟩
  | .hbm, ⟨56, _⟩ => ⟨S144x20x20x160, .f32⟩
  | .hbm, ⟨57, _⟩ => ⟨S_, .f32⟩
  | .hbm, ⟨58, _⟩ => ⟨S144x20x20x160, .f32⟩
  | .hbm, ⟨59, _⟩ => ⟨S144x20x20x160, .f32⟩
  | .hbm, ⟨60, _⟩ => ⟨S144x20x20x160, .bf16⟩
  | .hbm, ⟨61, _⟩ => ⟨S1x144x4x84x84, .i8⟩
  | .hbm, ⟨62, _⟩ => ⟨S144x4x84x84, .i8⟩
  | .hbm, ⟨63, _⟩ => ⟨S144x4x84x84, .i32⟩
  | .hbm, ⟨64, _⟩ => ⟨S144x4x84x84, .f32⟩
  | .hbm, ⟨65, _⟩ => ⟨S144x4x84x84, .bf16⟩
  | .hbm, ⟨66, _⟩ => ⟨S144x4x20x84, .bf16⟩
  | .hbm, ⟨67, _⟩ => ⟨S144x4x20x84, .bf16⟩
  | .hbm, ⟨68, _⟩ => ⟨S144x4x20x84, .bf16⟩
  | .hbm, ⟨69, _⟩ => ⟨S144x4x20x84, .bf16⟩
  | .hbm, ⟨70, _⟩ => ⟨S144x4x20x84, .bf16⟩
  | .hbm, ⟨71, _⟩ => ⟨S144x4x20x84, .bf16⟩
  | .hbm, ⟨72, _⟩ => ⟨S144x4x20x84, .bf16⟩
  | .hbm, ⟨73, _⟩ => ⟨S144x4x20x84, .bf16⟩
  | .hbm, ⟨74, _⟩ => ⟨S1x144x4x20x84, .bf16⟩
  | .hbm, ⟨75, _⟩ => ⟨S1x144x4x20x84, .bf16⟩
  | .hbm, ⟨76, _⟩ => ⟨S1x144x4x20x84, .bf16⟩
  | .hbm, ⟨77, _⟩ => ⟨S1x144x4x20x84, .bf16⟩
  | .hbm, ⟨78, _⟩ => ⟨S1x144x4x20x84, .bf16⟩
  | .hbm, ⟨79, _⟩ => ⟨S1x144x4x20x84, .bf16⟩
  | .hbm, ⟨80, _⟩ => ⟨S1x144x4x20x84, .bf16⟩
  | .hbm, ⟨81, _⟩ => ⟨S1x144x4x20x84, .bf16⟩
  | .hbm, ⟨82, _⟩ => ⟨S8x144x4x20x84, .bf16⟩
  | .hbm, ⟨83, _⟩ => ⟨S8x144x4x20x20, .bf16⟩
  | .hbm, ⟨84, _⟩ => ⟨S8x144x4x20x20, .bf16⟩
  | .hbm, ⟨85, _⟩ => ⟨S8x144x4x20x20, .bf16⟩
  | .hbm, ⟨86, _⟩ => ⟨S8x144x4x20x20, .bf16⟩
  | .hbm, ⟨87, _⟩ => ⟨S8x144x4x20x20, .bf16⟩
  | .hbm, ⟨88, _⟩ => ⟨S8x144x4x20x20, .bf16⟩
  | .hbm, ⟨89, _⟩ => ⟨S8x144x4x20x20, .bf16⟩
  | .hbm, ⟨90, _⟩ => ⟨S8x144x4x20x20, .bf16⟩
  | .hbm, ⟨91, _⟩ => ⟨S1x8x144x4x20x20, .bf16⟩
  | .hbm, ⟨92, _⟩ => ⟨S1x8x144x4x20x20, .bf16⟩
  | .hbm, ⟨93, _⟩ => ⟨S1x8x144x4x20x20, .bf16⟩
  | .hbm, ⟨94, _⟩ => ⟨S1x8x144x4x20x20, .bf16⟩
  | .hbm, ⟨95, _⟩ => ⟨S1x8x144x4x20x20, .bf16⟩
  | .hbm, ⟨96, _⟩ => ⟨S1x8x144x4x20x20, .bf16⟩
  | .hbm, ⟨97, _⟩ => ⟨S1x8x144x4x20x20, .bf16⟩
  | .hbm, ⟨98, _⟩ => ⟨S1x8x144x4x20x20, .bf16⟩
  | .hbm, ⟨99, _⟩ => ⟨S8x8x144x4x20x20, .bf16⟩
  | .hbm, ⟨100, _⟩ => ⟨S144x20x20x160, .f32⟩
  | .hbm, ⟨101, _⟩ => ⟨S1x1x1x160, .f32⟩
  | .hbm, ⟨102, _⟩ => ⟨S144x20x20x160, .f32⟩
  | .hbm, ⟨103, _⟩ => ⟨S144x20x20x160, .f32⟩
  | .hbm, ⟨104, _⟩ => ⟨S1x1x1x160, .f32⟩
  | .hbm, ⟨105, _⟩ => ⟨S144x20x20x160, .f32⟩
  | .hbm, ⟨106, _⟩ => ⟨S144x20x20x160, .f32⟩
  | .hbm, ⟨107, _⟩ => ⟨S_, .f32⟩
  | .hbm, ⟨108, _⟩ => ⟨S144x20x20x160, .f32⟩
  | .hbm, ⟨109, _⟩ => ⟨S144x20x20x160, .f32⟩
  | .hbm, ⟨110, _⟩ => ⟨S144x20x20x160, .bf16⟩
  | .local _ .vmem, ⟨0, _⟩ => ⟨S8x8x4x160, .fp8e4m3⟩
  | .local _ .vmem, ⟨1, _⟩ => ⟨S8x8x4x160, .bf16⟩
  | _, _ => ⟨S2128896, .i32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_call0_cst : Ref sig .tc := ⟨.hbm, 57, rfl⟩
abbrev main_call0_v0 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_v84 : Ref sig .tc := ⟨.hbm, 90, rfl⟩
abbrev main_v85 : Ref sig .tc := ⟨.hbm, 91, rfl⟩
abbrev main_v86 : Ref sig .tc := ⟨.hbm, 92, rfl⟩
abbrev main_v87 : Ref sig .tc := ⟨.hbm, 93, rfl⟩
abbrev main_v88 : Ref sig .tc := ⟨.hbm, 94, rfl⟩
abbrev main_v89 : Ref sig .tc := ⟨.hbm, 95, rfl⟩
abbrev main_v90 : Ref sig .tc := ⟨.hbm, 96, rfl⟩
abbrev main_v91 : Ref sig .tc := ⟨.hbm, 97, rfl⟩
abbrev main_v92 : Ref sig .tc := ⟨.hbm, 98, rfl⟩
abbrev main_v93 : Ref sig .tc := ⟨.hbm, 99, rfl⟩
abbrev main_v94 : Ref sig .tc := ⟨.hbm, 100, rfl⟩
abbrev main_v95 : Ref sig .tc := ⟨.hbm, 101, rfl⟩
abbrev main_v96 : Ref sig .tc := ⟨.hbm, 102, rfl⟩
abbrev main_v97 : Ref sig .tc := ⟨.hbm, 103, rfl⟩
abbrev main_v98 : Ref sig .tc := ⟨.hbm, 104, rfl⟩
abbrev main_v99 : Ref sig .tc := ⟨.hbm, 105, rfl⟩
abbrev main_v100 : Ref sig .tc := ⟨.hbm, 106, rfl⟩
abbrev main_call1_cst : Ref sig .tc := ⟨.hbm, 107, rfl⟩
abbrev main_call1_v0 : Ref sig .tc := ⟨.hbm, 108, rfl⟩
abbrev main_v101 : Ref sig .tc := ⟨.hbm, 109, rfl⟩
abbrev main_v102 : Ref sig .tc := ⟨.hbm, 110, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x8x4x160 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x8x4x160 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.KernelOffsets.lean ====
/- Where the bit-exact kernel's stores into its scratch `arg7` land, in closed form: block `(slot, ow, 32 g, 0)`, the slot the
   parity of the grid point, and where its loads from it land. -/
module

public import proofs.«01_k».proof.Proof.Gen.Kernel.Frame
public import proofs.«01_k».proof.Proof.Gen.Kernel.Skeleton

@[expose] public section

namespace Cert.Kernel.Gen

open Idealize.ShloMosaic Idealize.ShloMosaic.Tactic

variable (i : grid0.Coords)

instance : ClosedOff (k0_off1 i) := ⟨![(i 0).val % 2, 0, 0, 0], (by decide +kernel : ∀ i, k0_off1 i = ![(i 0).val % 2, 0, 0, 0]) i⟩
instance : ClosedOff (k0_off2 i) := ⟨![(i 0).val % 2, 2, 0, 0], (by decide +kernel : ∀ i, k0_off2 i = ![(i 0).val % 2, 2, 0, 0]) i⟩
instance : ClosedOff (k0_off3 i) := ⟨![(i 0).val % 2, 1, 0, 0], (by decide +kernel : ∀ i, k0_off3 i = ![(i 0).val % 2, 1, 0, 0]) i⟩
instance : ClosedOff (k0_off4 i) := ⟨![(i 0).val % 2, 4, 0, 0], (by decide +kernel : ∀ i, k0_off4 i = ![(i 0).val % 2, 4, 0, 0]) i⟩
instance : ClosedOff (k0_off5 i) := ⟨![(i 0).val % 2, 3, 0, 0], (by decide +kernel : ∀ i, k0_off5 i = ![(i 0).val % 2, 3, 0, 0]) i⟩
instance : ClosedOff (k0_off6 i) := ⟨![(i 0).val % 2, 6, 0, 0], (by decide +kernel : ∀ i, k0_off6 i = ![(i 0).val % 2, 6, 0, 0]) i⟩
instance : ClosedOff (k0_off7 i) := ⟨![(i 0).val % 2, 5, 0, 0], (by decide +kernel : ∀ i, k0_off7 i = ![(i 0).val % 2, 5, 0, 0]) i⟩
instance : ClosedOff (k0_off8 i) := ⟨![(i 0).val % 2, 8, 0, 0], (by decide +kernel : ∀ i, k0_off8 i = ![(i 0).val % 2, 8, 0, 0]) i⟩
instance : ClosedOff (k0_off9 i) := ⟨![(i 0).val % 2, 7, 0, 0], (by decide +kernel : ∀ i, k0_off9 i = ![(i 0).val % 2, 7, 0, 0]) i⟩
instance : ClosedOff (k0_off10 i) := ⟨![(i 0).val % 2, 10, 0, 0], (by decide +kernel : ∀ i, k0_off10 i = ![(i 0).val % 2, 10, 0, 0]) i⟩
instance : ClosedOff (k0_off11 i) := ⟨![(i 0).val % 2, 9, 0, 0], (by decide +kernel : ∀ i, k0_off11 i = ![(i 0).val % 2, 9, 0, 0]) i⟩
instance : ClosedOff (k0_off12 i) := ⟨![(i 0).val % 2, 12, 0, 0], (by decide +kernel : ∀ i, k0_off12 i = ![(i 0).val % 2, 12, 0, 0]) i⟩
instance : ClosedOff (k0_off13 i) := ⟨![(i 0).val % 2, 11, 0, 0], (by decide +kernel : ∀ i, k0_off13 i = ![(i 0).val % 2, 11, 0, 0]) i⟩
instance : ClosedOff (k0_off14 i) := ⟨![(i 0).val % 2, 14, 0, 0], (by decide +kernel : ∀ i, k0_off14 i = ![(i 0).val % 2, 14, 0, 0]) i⟩
instance : ClosedOff (k0_off15 i) := ⟨![(i 0).val % 2, 13, 0, 0], (by decide +kernel : ∀ i, k0_off15 i = ![(i 0).val % 2, 13, 0, 0]) i⟩
instance : ClosedOff (k0_off16 i) := ⟨![(i 0).val % 2, 16, 0, 0], (by decide +kernel : ∀ i, k0_off16 i = ![(i 0).val % 2, 16, 0, 0]) i⟩
instance : ClosedOff (k0_off17 i) := ⟨![(i 0).val % 2, 15, 0, 0], (by decide +kernel : ∀ i, k0_off17 i = ![(i 0).val % 2, 15, 0, 0]) i⟩
instance : ClosedOff (k0_off18 i) := ⟨![(i 0).val % 2, 18, 0, 0], (by decide +kernel : ∀ i, k0_off18 i = ![(i 0).val % 2, 18, 0, 0]) i⟩
instance : ClosedOff (k0_off19 i) := ⟨![(i 0).val % 2, 17, 0, 0], (by decide +kernel : ∀ i, k0_off19 i = ![(i 0).val % 2, 17, 0, 0]) i⟩
instance : ClosedOff (k0_off20 i) := ⟨![(i 0).val % 2, 19, 0, 0], (by decide +kernel : ∀ i, k0_off20 i = ![(i 0).val % 2, 19, 0, 0]) i⟩
instance : ClosedOff (k0_off21 i) := ⟨![(i 0).val % 2, 0, 32, 0], (by decide +kernel : ∀ i, k0_off21 i = ![(i 0).val % 2, 0, 32, 0]) i⟩
instance : ClosedOff (k0_off22 i) := ⟨![(i 0).val % 2, 2, 32, 0], (by decide +kernel : ∀ i, k0_off22 i = ![(i 0).val % 2, 2, 32, 0]) i⟩
instance : ClosedOff (k0_off23 i) := ⟨![(i 0).val % 2, 1, 32, 0], (by decide +kernel : ∀ i, k0_off23 i = ![(i 0).val % 2, 1, 32, 0]) i⟩
instance : ClosedOff (k0_off24 i) := ⟨![(i 0).val % 2, 4, 32, 0], (by decide +kernel : ∀ i, k0_off24 i = ![(i 0).val % 2, 4, 32, 0]) i⟩
instance : ClosedOff (k0_off25 i) := ⟨![(i 0).val % 2, 3, 32, 0], (by decide +kernel : ∀ i, k0_off25 i = ![(i 0).val % 2, 3, 32, 0]) i⟩
instance : ClosedOff (k0_off26 i) := ⟨![(i 0).val % 2, 6, 32, 0], (by decide +kernel : ∀ i, k0_off26 i = ![(i 0).val % 2, 6, 32, 0]) i⟩
instance : ClosedOff (k0_off27 i) := ⟨![(i 0).val % 2, 5, 32, 0], (by decide +kernel : ∀ i, k0_off27 i = ![(i 0).val % 2, 5, 32, 0]) i⟩
instance : ClosedOff (k0_off28 i) := ⟨![(i 0).val % 2, 8, 32, 0], (by decide +kernel : ∀ i, k0_off28 i = ![(i 0).val % 2, 8, 32, 0]) i⟩
instance : ClosedOff (k0_off29 i) := ⟨![(i 0).val % 2, 7, 32, 0], (by decide +kernel : ∀ i, k0_off29 i = ![(i 0).val % 2, 7, 32, 0]) i⟩
instance : ClosedOff (k0_off30 i) := ⟨![(i 0).val % 2, 10, 32, 0], (by decide +kernel : ∀ i, k0_off30 i = ![(i 0).val % 2, 10, 32, 0]) i⟩
instance : ClosedOff (k0_off31 i) := ⟨![(i 0).val % 2, 9, 32, 0], (by decide +kernel : ∀ i, k0_off31 i = ![(i 0).val % 2, 9, 32, 0]) i⟩
instance : ClosedOff (k0_off32 i) := ⟨![(i 0).val % 2, 12, 32, 0], (by decide +kernel : ∀ i, k0_off32 i = ![(i 0).val % 2, 12, 32, 0]) i⟩
instance : ClosedOff (k0_off33 i) := ⟨![(i 0).val % 2, 11, 32, 0], (by decide +kernel : ∀ i, k0_off33 i = ![(i 0).val % 2, 11, 32, 0]) i⟩
instance : ClosedOff (k0_off34 i) := ⟨![(i 0).val % 2, 14, 32, 0], (by decide +kernel : ∀ i, k0_off34 i = ![(i 0).val % 2, 14, 32, 0]) i⟩
instance : ClosedOff (k0_off35 i) := ⟨![(i 0).val % 2, 13, 32, 0], (by decide +kernel : ∀ i, k0_off35 i = ![(i 0).val % 2, 13, 32, 0]) i⟩
instance : ClosedOff (k0_off36 i) := ⟨![(i 0).val % 2, 16, 32, 0], (by decide +kernel : ∀ i, k0_off36 i = ![(i 0).val % 2, 16, 32, 0]) i⟩
instance : ClosedOff (k0_off37 i) := ⟨![(i 0).val % 2, 15, 32, 0], (by decide +kernel : ∀ i, k0_off37 i = ![(i 0).val % 2, 15, 32, 0]) i⟩
instance : ClosedOff (k0_off38 i) := ⟨![(i 0).val % 2, 18, 32, 0], (by decide +kernel : ∀ i, k0_off38 i = ![(i 0).val % 2, 18, 32, 0]) i⟩
instance : ClosedOff (k0_off39 i) := ⟨![(i 0).val % 2, 17, 32, 0], (by decide +kernel : ∀ i, k0_off39 i = ![(i 0).val % 2, 17, 32, 0]) i⟩
instance : ClosedOff (k0_off40 i) := ⟨![(i 0).val % 2, 19, 32, 0], (by decide +kernel : ∀ i, k0_off40 i = ![(i 0).val % 2, 19, 32, 0]) i⟩
instance : ClosedOff (k0_off41 i) := ⟨![(i 0).val % 2, 0, 64, 0], (by decide +kernel : ∀ i, k0_off41 i = ![(i 0).val % 2, 0, 64, 0]) i⟩
instance : ClosedOff (k0_off42 i) := ⟨![(i 0).val % 2, 2, 64, 0], (by decide +kernel : ∀ i, k0_off42 i = ![(i 0).val % 2, 2, 64, 0]) i⟩
instance : ClosedOff (k0_off43 i) := ⟨![(i 0).val % 2, 1, 64, 0], (by decide +kernel : ∀ i, k0_off43 i = ![(i 0).val % 2, 1, 64, 0]) i⟩
instance : ClosedOff (k0_off44 i) := ⟨![(i 0).val % 2, 4, 64, 0], (by decide +kernel : ∀ i, k0_off44 i = ![(i 0).val % 2, 4, 64, 0]) i⟩
instance : ClosedOff (k0_off45 i) := ⟨![(i 0).val % 2, 3, 64, 0], (by decide +kernel : ∀ i, k0_off45 i = ![(i 0).val % 2, 3, 64, 0]) i⟩
instance : ClosedOff (k0_off46 i) := ⟨![(i 0).val % 2, 6, 64, 0], (by decide +kernel : ∀ i, k0_off46 i = ![(i 0).val % 2, 6, 64, 0]) i⟩
instance : ClosedOff (k0_off47 i) := ⟨![(i 0).val % 2, 5, 64, 0], (by decide +kernel : ∀ i, k0_off47 i = ![(i 0).val % 2, 5, 64, 0]) i⟩
instance : ClosedOff (k0_off48 i) := ⟨![(i 0).val % 2, 8, 64, 0], (by decide +kernel : ∀ i, k0_off48 i = ![(i 0).val % 2, 8, 64, 0]) i⟩
instance : ClosedOff (k0_off49 i) := ⟨![(i 0).val % 2, 7, 64, 0], (by decide +kernel : ∀ i, k0_off49 i = ![(i 0).val % 2, 7, 64, 0]) i⟩
instance : ClosedOff (k0_off50 i) := ⟨![(i 0).val % 2, 10, 64, 0], (by decide +kernel : ∀ i, k0_off50 i = ![(i 0).val % 2, 10, 64, 0]) i⟩
instance : ClosedOff (k0_off51 i) := ⟨![(i 0).val % 2, 9, 64, 0], (by decide +kernel : ∀ i, k0_off51 i = ![(i 0).val % 2, 9, 64, 0]) i⟩
instance : ClosedOff (k0_off52 i) := ⟨![(i 0).val % 2, 12, 64, 0], (by decide +kernel : ∀ i, k0_off52 i = ![(i 0).val % 2, 12, 64, 0]) i⟩
instance : ClosedOff (k0_off53 i) := ⟨![(i 0).val % 2, 11, 64, 0], (by decide +kernel : ∀ i, k0_off53 i = ![(i 0).val % 2, 11, 64, 0]) i⟩
instance : ClosedOff (k0_off54 i) := ⟨![(i 0).val % 2, 14, 64, 0], (by decide +kernel : ∀ i, k0_off54 i = ![(i 0).val % 2, 14, 64, 0]) i⟩
instance : ClosedOff (k0_off55 i) := ⟨![(i 0).val % 2, 13, 64, 0], (by decide +kernel : ∀ i, k0_off55 i = ![(i 0).val % 2, 13, 64, 0]) i⟩
instance : ClosedOff (k0_off56 i) := ⟨![(i 0).val % 2, 16, 64, 0], (by decide +kernel : ∀ i, k0_off56 i = ![(i 0).val % 2, 16, 64, 0]) i⟩
instance : ClosedOff (k0_off57 i) := ⟨![(i 0).val % 2, 15, 64, 0], (by decide +kernel : ∀ i, k0_off57 i = ![(i 0).val % 2, 15, 64, 0]) i⟩
instance : ClosedOff (k0_off58 i) := ⟨![(i 0).val % 2, 18, 64, 0], (by decide +kernel : ∀ i, k0_off58 i = ![(i 0).val % 2, 18, 64, 0]) i⟩
instance : ClosedOff (k0_off59 i) := ⟨![(i 0).val % 2, 17, 64, 0], (by decide +kernel : ∀ i, k0_off59 i = ![(i 0).val % 2, 17, 64, 0]) i⟩
instance : ClosedOff (k0_off60 i) := ⟨![(i 0).val % 2, 19, 64, 0], (by decide +kernel : ∀ i, k0_off60 i = ![(i 0).val % 2, 19, 64, 0]) i⟩
instance : ClosedOff (k0_off61 i) := ⟨![(i 0).val % 2, 0, 96, 0], (by decide +kernel : ∀ i, k0_off61 i = ![(i 0).val % 2, 0, 96, 0]) i⟩
instance : ClosedOff (k0_off62 i) := ⟨![(i 0).val % 2, 2, 96, 0], (by decide +kernel : ∀ i, k0_off62 i = ![(i 0).val % 2, 2, 96, 0]) i⟩
instance : ClosedOff (k0_off63 i) := ⟨![(i 0).val % 2, 1, 96, 0], (by decide +kernel : ∀ i, k0_off63 i = ![(i 0).val % 2, 1, 96, 0]) i⟩
instance : ClosedOff (k0_off64 i) := ⟨![(i 0).val % 2, 4, 96, 0], (by decide +kernel : ∀ i, k0_off64 i = ![(i 0).val % 2, 4, 96, 0]) i⟩
instance : ClosedOff (k0_off65 i) := ⟨![(i 0).val % 2, 3, 96, 0], (by decide +kernel : ∀ i, k0_off65 i = ![(i 0).val % 2, 3, 96, 0]) i⟩
instance : ClosedOff (k0_off66 i) := ⟨![(i 0).val % 2, 6, 96, 0], (by decide +kernel : ∀ i, k0_off66 i = ![(i 0).val % 2, 6, 96, 0]) i⟩
instance : ClosedOff (k0_off67 i) := ⟨![(i 0).val % 2, 5, 96, 0], (by decide +kernel : ∀ i, k0_off67 i = ![(i 0).val % 2, 5, 96, 0]) i⟩
instance : ClosedOff (k0_off68 i) := ⟨![(i 0).val % 2, 8, 96, 0], (by decide +kernel : ∀ i, k0_off68 i = ![(i 0).val % 2, 8, 96, 0]) i⟩
instance : ClosedOff (k0_off69 i) := ⟨![(i 0).val % 2, 7, 96, 0], (by decide +kernel : ∀ i, k0_off69 i = ![(i 0).val % 2, 7, 96, 0]) i⟩
instance : ClosedOff (k0_off70 i) := ⟨![(i 0).val % 2, 10, 96, 0], (by decide +kernel : ∀ i, k0_off70 i = ![(i 0).val % 2, 10, 96, 0]) i⟩
instance : ClosedOff (k0_off71 i) := ⟨![(i 0).val % 2, 9, 96, 0], (by decide +kernel : ∀ i, k0_off71 i = ![(i 0).val % 2, 9, 96, 0]) i⟩
instance : ClosedOff (k0_off72 i) := ⟨![(i 0).val % 2, 12, 96, 0], (by decide +kernel : ∀ i, k0_off72 i = ![(i 0).val % 2, 12, 96, 0]) i⟩
instance : ClosedOff (k0_off73 i) := ⟨![(i 0).val % 2, 11, 96, 0], (by decide +kernel : ∀ i, k0_off73 i = ![(i 0).val % 2, 11, 96, 0]) i⟩
instance : ClosedOff (k0_off74 i) := ⟨![(i 0).val % 2, 14, 96, 0], (by decide +kernel : ∀ i, k0_off74 i = ![(i 0).val % 2, 14, 96, 0]) i⟩
instance : ClosedOff (k0_off75 i) := ⟨![(i 0).val % 2, 13, 96, 0], (by decide +kernel : ∀ i, k0_off75 i = ![(i 0).val % 2, 13, 96, 0]) i⟩
instance : ClosedOff (k0_off76 i) := ⟨![(i 0).val % 2, 16, 96, 0], (by decide +kernel : ∀ i, k0_off76 i = ![(i 0).val % 2, 16, 96, 0]) i⟩
instance : ClosedOff (k0_off77 i) := ⟨![(i 0).val % 2, 15, 96, 0], (by decide +kernel : ∀ i, k0_off77 i = ![(i 0).val % 2, 15, 96, 0]) i⟩
instance : ClosedOff (k0_off78 i) := ⟨![(i 0).val % 2, 18, 96, 0], (by decide +kernel : ∀ i, k0_off78 i = ![(i 0).val % 2, 18, 96, 0]) i⟩
instance : ClosedOff (k0_off79 i) := ⟨![(i 0).val % 2, 17, 96, 0], (by decide +kernel : ∀ i, k0_off79 i = ![(i 0).val % 2, 17, 96, 0]) i⟩
instance : ClosedOff (k0_off80 i) := ⟨![(i 0).val % 2, 19, 96, 0], (by decide +kernel : ∀ i, k0_off80 i = ![(i 0).val % 2, 19, 96, 0]) i⟩
instance : ClosedOff (k0_off81 i) := ⟨![(i 0).val % 2, 0, 128, 0], (by decide +kernel : ∀ i, k0_off81 i = ![(i 0).val % 2, 0, 128, 0]) i⟩
instance : ClosedOff (k0_off82 i) := ⟨![(i 0).val % 2, 2, 128, 0], (by decide +kernel : ∀ i, k0_off82 i = ![(i 0).val % 2, 2, 128, 0]) i⟩
instance : ClosedOff (k0_off83 i) := ⟨![(i 0).val % 2, 1, 128, 0], (by decide +kernel : ∀ i, k0_off83 i = ![(i 0).val % 2, 1, 128, 0]) i⟩
instance : ClosedOff (k0_off84 i) := ⟨![(i 0).val % 2, 4, 128, 0], (by decide +kernel : ∀ i, k0_off84 i = ![(i 0).val % 2, 4, 128, 0]) i⟩
instance : ClosedOff (k0_off85 i) := ⟨![(i 0).val % 2, 3, 128, 0], (by decide +kernel : ∀ i, k0_off85 i = ![(i 0).val % 2, 3, 128, 0]) i⟩
instance : ClosedOff (k0_off86 i) := ⟨![(i 0).val % 2, 6, 128, 0], (by decide +kernel : ∀ i, k0_off86 i = ![(i 0).val % 2, 6, 128, 0]) i⟩
instance : ClosedOff (k0_off87 i) := ⟨![(i 0).val % 2, 5, 128, 0], (by decide +kernel : ∀ i, k0_off87 i = ![(i 0).val % 2, 5, 128, 0]) i⟩
instance : ClosedOff (k0_off88 i) := ⟨![(i 0).val % 2, 8, 128, 0], (by decide +kernel : ∀ i, k0_off88 i = ![(i 0).val % 2, 8, 128, 0]) i⟩
instance : ClosedOff (k0_off89 i) := ⟨![(i 0).val % 2, 7, 128, 0], (by decide +kernel : ∀ i, k0_off89 i = ![(i 0).val % 2, 7, 128, 0]) i⟩
instance : ClosedOff (k0_off90 i) := ⟨![(i 0).val % 2, 10, 128, 0], (by decide +kernel : ∀ i, k0_off90 i = ![(i 0).val % 2, 10, 128, 0]) i⟩
instance : ClosedOff (k0_off91 i) := ⟨![(i 0).val % 2, 9, 128, 0], (by decide +kernel : ∀ i, k0_off91 i = ![(i 0).val % 2, 9, 128, 0]) i⟩
instance : ClosedOff (k0_off92 i) := ⟨![(i 0).val % 2, 12, 128, 0], (by decide +kernel : ∀ i, k0_off92 i = ![(i 0).val % 2, 12, 128, 0]) i⟩
instance : ClosedOff (k0_off93 i) := ⟨![(i 0).val % 2, 11, 128, 0], (by decide +kernel : ∀ i, k0_off93 i = ![(i 0).val % 2, 11, 128, 0]) i⟩
instance : ClosedOff (k0_off94 i) := ⟨![(i 0).val % 2, 14, 128, 0], (by decide +kernel : ∀ i, k0_off94 i = ![(i 0).val % 2, 14, 128, 0]) i⟩
instance : ClosedOff (k0_off95 i) := ⟨![(i 0).val % 2, 13, 128, 0], (by decide +kernel : ∀ i, k0_off95 i = ![(i 0).val % 2, 13, 128, 0]) i⟩
instance : ClosedOff (k0_off96 i) := ⟨![(i 0).val % 2, 16, 128, 0], (by decide +kernel : ∀ i, k0_off96 i = ![(i 0).val % 2, 16, 128, 0]) i⟩
instance : ClosedOff (k0_off97 i) := ⟨![(i 0).val % 2, 15, 128, 0], (by decide +kernel : ∀ i, k0_off97 i = ![(i 0).val % 2, 15, 128, 0]) i⟩
instance : ClosedOff (k0_off98 i) := ⟨![(i 0).val % 2, 18, 128, 0], (by decide +kernel : ∀ i, k0_off98 i = ![(i 0).val % 2, 18, 128, 0]) i⟩
instance : ClosedOff (k0_off99 i) := ⟨![(i 0).val % 2, 17, 128, 0], (by decide +kernel : ∀ i, k0_off99 i = ![(i 0).val % 2, 17, 128, 0]) i⟩
instance : ClosedOff (k0_off100 i) := ⟨![(i 0).val % 2, 19, 128, 0], (by decide +kernel : ∀ i, k0_off100 i = ![(i 0).val % 2, 19, 128, 0]) i⟩
instance : ClosedOff (k0_off101 i) := ⟨![(i 0).val % 2, 0, 160, 0], (by decide +kernel : ∀ i, k0_off101 i = ![(i 0).val % 2, 0, 160, 0]) i⟩
instance : ClosedOff (k0_off102 i) := ⟨![(i 0).val % 2, 2, 160, 0], (by decide +kernel : ∀ i, k0_off102 i = ![(i 0).val % 2, 2, 160, 0]) i⟩
instance : ClosedOff (k0_off103 i) := ⟨![(i 0).val % 2, 1, 160, 0], (by decide +kernel : ∀ i, k0_off103 i = ![(i 0).val % 2, 1, 160, 0]) i⟩
instance : ClosedOff (k0_off104 i) := ⟨![(i 0).val % 2, 4, 160, 0], (by decide +kernel : ∀ i, k0_off104 i = ![(i 0).val % 2, 4, 160, 0]) i⟩
instance : ClosedOff (k0_off105 i) := ⟨![(i 0).val % 2, 3, 160, 0], (by decide +kernel : ∀ i, k0_off105 i = ![(i 0).val % 2, 3, 160, 0]) i⟩
instance : ClosedOff (k0_off106 i) := ⟨![(i 0).val % 2, 6, 160, 0], (by decide +kernel : ∀ i, k0_off106 i = ![(i 0).val % 2, 6, 160, 0]) i⟩
instance : ClosedOff (k0_off107 i) := ⟨![(i 0).val % 2, 5, 160, 0], (by decide +kernel : ∀ i, k0_off107 i = ![(i 0).val % 2, 5, 160, 0]) i⟩
instance : ClosedOff (k0_off108 i) := ⟨![(i 0).val % 2, 8, 160, 0], (by decide +kernel : ∀ i, k0_off108 i = ![(i 0).val % 2, 8, 160, 0]) i⟩
instance : ClosedOff (k0_off109 i) := ⟨![(i 0).val % 2, 7, 160, 0], (by decide +kernel : ∀ i, k0_off109 i = ![(i 0).val % 2, 7, 160, 0]) i⟩
instance : ClosedOff (k0_off110 i) := ⟨![(i 0).val % 2, 10, 160, 0], (by decide +kernel : ∀ i, k0_off110 i = ![(i 0).val % 2, 10, 160, 0]) i⟩
instance : ClosedOff (k0_off111 i) := ⟨![(i 0).val % 2, 9, 160, 0], (by decide +kernel : ∀ i, k0_off111 i = ![(i 0).val % 2, 9, 160, 0]) i⟩
instance : ClosedOff (k0_off112 i) := ⟨![(i 0).val % 2, 12, 160, 0], (by decide +kernel : ∀ i, k0_off112 i = ![(i 0).val % 2, 12, 160, 0]) i⟩
instance : ClosedOff (k0_off113 i) := ⟨![(i 0).val % 2, 11, 160, 0], (by decide +kernel : ∀ i, k0_off113 i = ![(i 0).val % 2, 11, 160, 0]) i⟩
instance : ClosedOff (k0_off114 i) := ⟨![(i 0).val % 2, 14, 160, 0], (by decide +kernel : ∀ i, k0_off114 i = ![(i 0).val % 2, 14, 160, 0]) i⟩
instance : ClosedOff (k0_off115 i) := ⟨![(i 0).val % 2, 13, 160, 0], (by decide +kernel : ∀ i, k0_off115 i = ![(i 0).val % 2, 13, 160, 0]) i⟩
instance : ClosedOff (k0_off116 i) := ⟨![(i 0).val % 2, 16, 160, 0], (by decide +kernel : ∀ i, k0_off116 i = ![(i 0).val % 2, 16, 160, 0]) i⟩
instance : ClosedOff (k0_off117 i) := ⟨![(i 0).val % 2, 15, 160, 0], (by decide +kernel : ∀ i, k0_off117 i = ![(i 0).val % 2, 15, 160, 0]) i⟩
instance : ClosedOff (k0_off118 i) := ⟨![(i 0).val % 2, 18, 160, 0], (by decide +kernel : ∀ i, k0_off118 i = ![(i 0).val % 2, 18, 160, 0]) i⟩
instance : ClosedOff (k0_off119 i) := ⟨![(i 0).val % 2, 17, 160, 0], (by decide +kernel : ∀ i, k0_off119 i = ![(i 0).val % 2, 17, 160, 0]) i⟩
instance : ClosedOff (k0_off120 i) := ⟨![(i 0).val % 2, 19, 160, 0], (by decide +kernel : ∀ i, k0_off120 i = ![(i 0).val % 2, 19, 160, 0]) i⟩
instance : ClosedOff (k0_off121 i) := ⟨![(i 0).val % 2, 0, 192, 0], (by decide +kernel : ∀ i, k0_off121 i = ![(i 0).val % 2, 0, 192, 0]) i⟩
instance : ClosedOff (k0_off122 i) := ⟨![(i 0).val % 2, 2, 192, 0], (by decide +kernel : ∀ i, k0_off122 i = ![(i 0).val % 2, 2, 192, 0]) i⟩
instance : ClosedOff (k0_off123 i) := ⟨![(i 0).val % 2, 1, 192, 0], (by decide +kernel : ∀ i, k0_off123 i = ![(i 0).val % 2, 1, 192, 0]) i⟩
instance : ClosedOff (k0_off124 i) := ⟨![(i 0).val % 2, 4, 192, 0], (by decide +kernel : ∀ i, k0_off124 i = ![(i 0).val % 2, 4, 192, 0]) i⟩
instance : ClosedOff (k0_off125 i) := ⟨![(i 0).val % 2, 3, 192, 0], (by decide +kernel : ∀ i, k0_off125 i = ![(i 0).val % 2, 3, 192, 0]) i⟩
instance : ClosedOff (k0_off126 i) := ⟨![(i 0).val % 2, 6, 192, 0], (by decide +kernel : ∀ i, k0_off126 i = ![(i 0).val % 2, 6, 192, 0]) i⟩
instance : ClosedOff (k0_off127 i) := ⟨![(i 0).val % 2, 5, 192, 0], (by decide +kernel : ∀ i, k0_off127 i = ![(i 0).val % 2, 5, 192, 0]) i⟩
instance : ClosedOff (k0_off128 i) := ⟨![(i 0).val % 2, 8, 192, 0], (by decide +kernel : ∀ i, k0_off128 i = ![(i 0).val % 2, 8, 192, 0]) i⟩
instance : ClosedOff (k0_off129 i) := ⟨![(i 0).val % 2, 7, 192, 0], (by decide +kernel : ∀ i, k0_off129 i = ![(i 0).val % 2, 7, 192, 0]) i⟩
instance : ClosedOff (k0_off130 i) := ⟨![(i 0).val % 2, 10, 192, 0], (by decide +kernel : ∀ i, k0_off130 i = ![(i 0).val % 2, 10, 192, 0]) i⟩
instance : ClosedOff (k0_off131 i) := ⟨![(i 0).val % 2, 9, 192, 0], (by decide +kernel : ∀ i, k0_off131 i = ![(i 0).val % 2, 9, 192, 0]) i⟩
instance : ClosedOff (k0_off132 i) := ⟨![(i 0).val % 2, 12, 192, 0], (by decide +kernel : ∀ i, k0_off132 i = ![(i 0).val % 2, 12, 192, 0]) i⟩
instance : ClosedOff (k0_off133 i) := ⟨![(i 0).val % 2, 11, 192, 0], (by decide +kernel : ∀ i, k0_off133 i = ![(i 0).val % 2, 11, 192, 0]) i⟩
instance : ClosedOff (k0_off134 i) := ⟨![(i 0).val % 2, 14, 192, 0], (by decide +kernel : ∀ i, k0_off134 i = ![(i 0).val % 2, 14, 192, 0]) i⟩
instance : ClosedOff (k0_off135 i) := ⟨![(i 0).val % 2, 13, 192, 0], (by decide +kernel : ∀ i, k0_off135 i = ![(i 0).val % 2, 13, 192, 0]) i⟩
instance : ClosedOff (k0_off136 i) := ⟨![(i 0).val % 2, 16, 192, 0], (by decide +kernel : ∀ i, k0_off136 i = ![(i 0).val % 2, 16, 192, 0]) i⟩
instance : ClosedOff (k0_off137 i) := ⟨![(i 0).val % 2, 15, 192, 0], (by decide +kernel : ∀ i, k0_off137 i = ![(i 0).val % 2, 15, 192, 0]) i⟩
instance : ClosedOff (k0_off138 i) := ⟨![(i 0).val % 2, 18, 192, 0], (by decide +kernel : ∀ i, k0_off138 i = ![(i 0).val % 2, 18, 192, 0]) i⟩
instance : ClosedOff (k0_off139 i) := ⟨![(i 0).val % 2, 17, 192, 0], (by decide +kernel : ∀ i, k0_off139 i = ![(i 0).val % 2, 17, 192, 0]) i⟩
instance : ClosedOff (k0_off140 i) := ⟨![(i 0).val % 2, 19, 192, 0], (by decide +kernel : ∀ i, k0_off140 i = ![(i 0).val % 2, 19, 192, 0]) i⟩
instance : ClosedOff (k0_off141 i) := ⟨![(i 0).val % 2, 0, 224, 0], (by decide +kernel : ∀ i, k0_off141 i = ![(i 0).val % 2, 0, 224, 0]) i⟩
instance : ClosedOff (k0_off142 i) := ⟨![(i 0).val % 2, 2, 224, 0], (by decide +kernel : ∀ i, k0_off142 i = ![(i 0).val % 2, 2, 224, 0]) i⟩
instance : ClosedOff (k0_off143 i) := ⟨![(i 0).val % 2, 1, 224, 0], (by decide +kernel : ∀ i, k0_off143 i = ![(i 0).val % 2, 1, 224, 0]) i⟩
instance : ClosedOff (k0_off144 i) := ⟨![(i 0).val % 2, 4, 224, 0], (by decide +kernel : ∀ i, k0_off144 i = ![(i 0).val % 2, 4, 224, 0]) i⟩
instance : ClosedOff (k0_off145 i) := ⟨![(i 0).val % 2, 3, 224, 0], (by decide +kernel : ∀ i, k0_off145 i = ![(i 0).val % 2, 3, 224, 0]) i⟩
instance : ClosedOff (k0_off146 i) := ⟨![(i 0).val % 2, 6, 224, 0], (by decide +kernel : ∀ i, k0_off146 i = ![(i 0).val % 2, 6, 224, 0]) i⟩
instance : ClosedOff (k0_off147 i) := ⟨![(i 0).val % 2, 5, 224, 0], (by decide +kernel : ∀ i, k0_off147 i = ![(i 0).val % 2, 5, 224, 0]) i⟩
instance : ClosedOff (k0_off148 i) := ⟨![(i 0).val % 2, 8, 224, 0], (by decide +kernel : ∀ i, k0_off148 i = ![(i 0).val % 2, 8, 224, 0]) i⟩
instance : ClosedOff (k0_off149 i) := ⟨![(i 0).val % 2, 7, 224, 0], (by decide +kernel : ∀ i, k0_off149 i = ![(i 0).val % 2, 7, 224, 0]) i⟩
instance : ClosedOff (k0_off150 i) := ⟨![(i 0).val % 2, 10, 224, 0], (by decide +kernel : ∀ i, k0_off150 i = ![(i 0).val % 2, 10, 224, 0]) i⟩
instance : ClosedOff (k0_off151 i) := ⟨![(i 0).val % 2, 9, 224, 0], (by decide +kernel : ∀ i, k0_off151 i = ![(i 0).val % 2, 9, 224, 0]) i⟩
instance : ClosedOff (k0_off152 i) := ⟨![(i 0).val % 2, 12, 224, 0], (by decide +kernel : ∀ i, k0_off152 i = ![(i 0).val % 2, 12, 224, 0]) i⟩
instance : ClosedOff (k0_off153 i) := ⟨![(i 0).val % 2, 11, 224, 0], (by decide +kernel : ∀ i, k0_off153 i = ![(i 0).val % 2, 11, 224, 0]) i⟩
instance : ClosedOff (k0_off154 i) := ⟨![(i 0).val % 2, 14, 224, 0], (by decide +kernel : ∀ i, k0_off154 i = ![(i 0).val % 2, 14, 224, 0]) i⟩
instance : ClosedOff (k0_off155 i) := ⟨![(i 0).val % 2, 13, 224, 0], (by decide +kernel : ∀ i, k0_off155 i = ![(i 0).val % 2, 13, 224, 0]) i⟩
instance : ClosedOff (k0_off156 i) := ⟨![(i 0).val % 2, 16, 224, 0], (by decide +kernel : ∀ i, k0_off156 i = ![(i 0).val % 2, 16, 224, 0]) i⟩
instance : ClosedOff (k0_off157 i) := ⟨![(i 0).val % 2, 15, 224, 0], (by decide +kernel : ∀ i, k0_off157 i = ![(i 0).val % 2, 15, 224, 0]) i⟩
instance : ClosedOff (k0_off158 i) := ⟨![(i 0).val % 2, 18, 224, 0], (by decide +kernel : ∀ i, k0_off158 i = ![(i 0).val % 2, 18, 224, 0]) i⟩
instance : ClosedOff (k0_off159 i) := ⟨![(i 0).val % 2, 17, 224, 0], (by decide +kernel : ∀ i, k0_off159 i = ![(i 0).val % 2, 17, 224, 0]) i⟩
instance : ClosedOff (k0_off160 i) := ⟨![(i 0).val % 2, 19, 224, 0], (by decide +kernel : ∀ i, k0_off160 i = ![(i 0).val % 2, 19, 224, 0]) i⟩
instance : ClosedOff (k0_off161 i) := ⟨![(i 0).val % 2, 0, 256, 0], (by decide +kernel : ∀ i, k0_off161 i = ![(i 0).val % 2, 0, 256, 0]) i⟩
instance : ClosedOff (k0_off162 i) := ⟨![(i 0).val % 2, 2, 256, 0], (by decide +kernel : ∀ i, k0_off162 i = ![(i 0).val % 2, 2, 256, 0]) i⟩
instance : ClosedOff (k0_off163 i) := ⟨![(i 0).val % 2, 1, 256, 0], (by decide +kernel : ∀ i, k0_off163 i = ![(i 0).val % 2, 1, 256, 0]) i⟩
instance : ClosedOff (k0_off164 i) := ⟨![(i 0).val % 2, 4, 256, 0], (by decide +kernel : ∀ i, k0_off164 i = ![(i 0).val % 2, 4, 256, 0]) i⟩
instance : ClosedOff (k0_off165 i) := ⟨![(i 0).val % 2, 3, 256, 0], (by decide +kernel : ∀ i, k0_off165 i = ![(i 0).val % 2, 3, 256, 0]) i⟩
instance : ClosedOff (k0_off166 i) := ⟨![(i 0).val % 2, 6, 256, 0], (by decide +kernel : ∀ i, k0_off166 i = ![(i 0).val % 2, 6, 256, 0]) i⟩
instance : ClosedOff (k0_off167 i) := ⟨![(i 0).val % 2, 5, 256, 0], (by decide +kernel : ∀ i, k0_off167 i = ![(i 0).val % 2, 5, 256, 0]) i⟩
instance : ClosedOff (k0_off168 i) := ⟨![(i 0).val % 2, 8, 256, 0], (by decide +kernel : ∀ i, k0_off168 i = ![(i 0).val % 2, 8, 256, 0]) i⟩
instance : ClosedOff (k0_off169 i) := ⟨![(i 0).val % 2, 7, 256, 0], (by decide +kernel : ∀ i, k0_off169 i = ![(i 0).val % 2, 7, 256, 0]) i⟩
instance : ClosedOff (k0_off170 i) := ⟨![(i 0).val % 2, 10, 256, 0], (by decide +kernel : ∀ i, k0_off170 i = ![(i 0).val % 2, 10, 256, 0]) i⟩
instance : ClosedOff (k0_off171 i) := ⟨![(i 0).val % 2, 9, 256, 0], (by decide +kernel : ∀ i, k0_off171 i = ![(i 0).val % 2, 9, 256, 0]) i⟩
instance : ClosedOff (k0_off172 i) := ⟨![(i 0).val % 2, 12, 256, 0], (by decide +kernel : ∀ i, k0_off172 i = ![(i 0).val % 2, 12, 256, 0]) i⟩
instance : ClosedOff (k0_off173 i) := ⟨![(i 0).val % 2, 11, 256, 0], (by decide +kernel : ∀ i, k0_off173 i = ![(i 0).val % 2, 11, 256, 0]) i⟩
instance : ClosedOff (k0_off174 i) := ⟨![(i 0).val % 2, 14, 256, 0], (by decide +kernel : ∀ i, k0_off174 i = ![(i 0).val % 2, 14, 256, 0]) i⟩
instance : ClosedOff (k0_off175 i) := ⟨![(i 0).val % 2, 13, 256, 0], (by decide +kernel : ∀ i, k0_off175 i = ![(i 0).val % 2, 13, 256, 0]) i⟩
instance : ClosedOff (k0_off176 i) := ⟨![(i 0).val % 2, 16, 256, 0], (by decide +kernel : ∀ i, k0_off176 i = ![(i 0).val % 2, 16, 256, 0]) i⟩
instance : ClosedOff (k0_off177 i) := ⟨![(i 0).val % 2, 15, 256, 0], (by decide +kernel : ∀ i, k0_off177 i = ![(i 0).val % 2, 15, 256, 0]) i⟩
instance : ClosedOff (k0_off178 i) := ⟨![(i 0).val % 2, 18, 256, 0], (by decide +kernel : ∀ i, k0_off178 i = ![(i 0).val % 2, 18, 256, 0]) i⟩
instance : ClosedOff (k0_off179 i) := ⟨![(i 0).val % 2, 17, 256, 0], (by decide +kernel : ∀ i, k0_off179 i = ![(i 0).val % 2, 17, 256, 0]) i⟩
instance : ClosedOff (k0_off180 i) := ⟨![(i 0).val % 2, 19, 256, 0], (by decide +kernel : ∀ i, k0_off180 i = ![(i 0).val % 2, 19, 256, 0]) i⟩
instance : ClosedOff (k0_off181 i) := ⟨![1 - (i 0).val % 2, 0, 0, 0], (by decide +kernel : ∀ i, k0_off181 i = ![1 - (i 0).val % 2, 0, 0, 0]) i⟩
instance : ClosedOff (k0_off182 i) := ⟨![(i 0).val % 2, 0, 0, 0], (by decide +kernel : ∀ i, k0_off182 i = ![(i 0).val % 2, 0, 0, 0]) i⟩
instance : ClosedOff (k0_off183 i) := ⟨![1 - (i 0).val % 2, 1, 0, 0], (by decide +kernel : ∀ i, k0_off183 i = ![1 - (i 0).val % 2, 1, 0, 0]) i⟩
instance : ClosedOff (k0_off184 i) := ⟨![(i 0).val % 2, 1, 0, 0], (by decide +kernel : ∀ i, k0_off184 i = ![(i 0).val % 2, 1, 0, 0]) i⟩
instance : ClosedOff (k0_off185 i) := ⟨![1 - (i 0).val % 2, 2, 0, 0], (by decide +kernel : ∀ i, k0_off185 i = ![1 - (i 0).val % 2, 2, 0, 0]) i⟩
instance : ClosedOff (k0_off186 i) := ⟨![(i 0).val % 2, 2, 0, 0], (by decide +kernel : ∀ i, k0_off186 i = ![(i 0).val % 2, 2, 0, 0]) i⟩
instance : ClosedOff (k0_off187 i) := ⟨![1 - (i 0).val % 2, 3, 0, 0], (by decide +kernel : ∀ i, k0_off187 i = ![1 - (i 0).val % 2, 3, 0, 0]) i⟩
instance : ClosedOff (k0_off188 i) := ⟨![(i 0).val % 2, 3, 0, 0], (by decide +kernel : ∀ i, k0_off188 i = ![(i 0).val % 2, 3, 0, 0]) i⟩
instance : ClosedOff (k0_off189 i) := ⟨![1 - (i 0).val % 2, 4, 0, 0], (by decide +kernel : ∀ i, k0_off189 i = ![1 - (i 0).val % 2, 4, 0, 0]) i⟩
instance : ClosedOff (k0_off190 i) := ⟨![(i 0).val % 2, 4, 0, 0], (by decide +kernel : ∀ i, k0_off190 i = ![(i 0).val % 2, 4, 0, 0]) i⟩
instance : ClosedOff (k0_off191 i) := ⟨![1 - (i 0).val % 2, 5, 0, 0], (by decide +kernel : ∀ i, k0_off191 i = ![1 - (i 0).val % 2, 5, 0, 0]) i⟩
instance : ClosedOff (k0_off192 i) := ⟨![(i 0).val % 2, 5, 0, 0], (by decide +kernel : ∀ i, k0_off192 i = ![(i 0).val % 2, 5, 0, 0]) i⟩
instance : ClosedOff (k0_off193 i) := ⟨![1 - (i 0).val % 2, 6, 0, 0], (by decide +kernel : ∀ i, k0_off193 i = ![1 - (i 0).val % 2, 6, 0, 0]) i⟩
instance : ClosedOff (k0_off194 i) := ⟨![(i 0).val % 2, 6, 0, 0], (by decide +kernel : ∀ i, k0_off194 i = ![(i 0).val % 2, 6, 0, 0]) i⟩
instance : ClosedOff (k0_off195 i) := ⟨![1 - (i 0).val % 2, 7, 0, 0], (by decide +kernel : ∀ i, k0_off195 i = ![1 - (i 0).val % 2, 7, 0, 0]) i⟩
instance : ClosedOff (k0_off196 i) := ⟨![(i 0).val % 2, 7, 0, 0], (by decide +kernel : ∀ i, k0_off196 i = ![(i 0).val % 2, 7, 0, 0]) i⟩
instance : ClosedOff (k0_off197 i) := ⟨![1 - (i 0).val % 2, 8, 0, 0], (by decide +kernel : ∀ i, k0_off197 i = ![1 - (i 0).val % 2, 8, 0, 0]) i⟩
instance : ClosedOff (k0_off198 i) := ⟨![(i 0).val % 2, 8, 0, 0], (by decide +kernel : ∀ i, k0_off198 i = ![(i 0).val % 2, 8, 0, 0]) i⟩
instance : ClosedOff (k0_off199 i) := ⟨![1 - (i 0).val % 2, 9, 0, 0], (by decide +kernel : ∀ i, k0_off199 i = ![1 - (i 0).val % 2, 9, 0, 0]) i⟩
instance : ClosedOff (k0_off200 i) := ⟨![(i 0).val % 2, 9, 0, 0], (by decide +kernel : ∀ i, k0_off200 i = ![(i 0).val % 2, 9, 0, 0]) i⟩
instance : ClosedOff (k0_off201 i) := ⟨![1 - (i 0).val % 2, 10, 0, 0], (by decide +kernel : ∀ i, k0_off201 i = ![1 - (i 0).val % 2, 10, 0, 0]) i⟩
instance : ClosedOff (k0_off202 i) := ⟨![(i 0).val % 2, 10, 0, 0], (by decide +kernel : ∀ i, k0_off202 i = ![(i 0).val % 2, 10, 0, 0]) i⟩
instance : ClosedOff (k0_off203 i) := ⟨![1 - (i 0).val % 2, 11, 0, 0], (by decide +kernel : ∀ i, k0_off203 i = ![1 - (i 0).val % 2, 11, 0, 0]) i⟩
instance : ClosedOff (k0_off204 i) := ⟨![(i 0).val % 2, 11, 0, 0], (by decide +kernel : ∀ i, k0_off204 i = ![(i 0).val % 2, 11, 0, 0]) i⟩
instance : ClosedOff (k0_off205 i) := ⟨![1 - (i 0).val % 2, 12, 0, 0], (by decide +kernel : ∀ i, k0_off205 i = ![1 - (i 0).val % 2, 12, 0, 0]) i⟩
instance : ClosedOff (k0_off206 i) := ⟨![(i 0).val % 2, 12, 0, 0], (by decide +kernel : ∀ i, k0_off206 i = ![(i 0).val % 2, 12, 0, 0]) i⟩
instance : ClosedOff (k0_off207 i) := ⟨![1 - (i 0).val % 2, 13, 0, 0], (by decide +kernel : ∀ i, k0_off207 i = ![1 - (i 0).val % 2, 13, 0, 0]) i⟩
instance : ClosedOff (k0_off208 i) := ⟨![(i 0).val % 2, 13, 0, 0], (by decide +kernel : ∀ i, k0_off208 i = ![(i 0).val % 2, 13, 0, 0]) i⟩
instance : ClosedOff (k0_off209 i) := ⟨![1 - (i 0).val % 2, 14, 0, 0], (by decide +kernel : ∀ i, k0_off209 i = ![1 - (i 0).val % 2, 14, 0, 0]) i⟩
instance : ClosedOff (k0_off210 i) := ⟨![(i 0).val % 2, 14, 0, 0], (by decide +kernel : ∀ i, k0_off210 i = ![(i 0).val % 2, 14, 0, 0]) i⟩
instance : ClosedOff (k0_off211 i) := ⟨![1 - (i 0).val % 2, 15, 0, 0], (by decide +kernel : ∀ i, k0_off211 i = ![1 - (i 0).val % 2, 15, 0, 0]) i⟩
instance : ClosedOff (k0_off212 i) := ⟨![(i 0).val % 2, 15, 0, 0], (by decide +kernel : ∀ i, k0_off212 i = ![(i 0).val % 2, 15, 0, 0]) i⟩
instance : ClosedOff (k0_off213 i) := ⟨![1 - (i 0).val % 2, 16, 0, 0], (by decide +kernel : ∀ i, k0_off213 i = ![1 - (i 0).val % 2, 16, 0, 0]) i⟩
instance : ClosedOff (k0_off214 i) := ⟨![(i 0).val % 2, 16, 0, 0], (by decide +kernel : ∀ i, k0_off214 i = ![(i 0).val % 2, 16, 0, 0]) i⟩
instance : ClosedOff (k0_off215 i) := ⟨![1 - (i 0).val % 2, 17, 0, 0], (by decide +kernel : ∀ i, k0_off215 i = ![1 - (i 0).val % 2, 17, 0, 0]) i⟩
instance : ClosedOff (k0_off216 i) := ⟨![(i 0).val % 2, 17, 0, 0], (by decide +kernel : ∀ i, k0_off216 i = ![(i 0).val % 2, 17, 0, 0]) i⟩
instance : ClosedOff (k0_off217 i) := ⟨![1 - (i 0).val % 2, 18, 0, 0], (by decide +kernel : ∀ i, k0_off217 i = ![1 - (i 0).val % 2, 18, 0, 0]) i⟩
instance : ClosedOff (k0_off218 i) := ⟨![(i 0).val % 2, 18, 0, 0], (by decide +kernel : ∀ i, k0_off218 i = ![(i 0).val % 2, 18, 0, 0]) i⟩
instance : ClosedOff (k0_off219 i) := ⟨![1 - (i 0).val % 2, 19, 0, 0], (by decide +kernel : ∀ i, k0_off219 i = ![1 - (i 0).val % 2, 19, 0, 0]) i⟩
instance : ClosedOff (k0_off220 i) := ⟨![(i 0).val % 2, 19, 0, 0], (by decide +kernel : ∀ i, k0_off220 i = ![(i 0).val % 2, 19, 0, 0]) i⟩

end Cert.Kernel.Gen
-- ==== Proof.KernelPoints.lean ====
/- What the runs of the bit-exact kernel's body share: the conditions of its two branches over the grid points, the staging and
   scratch memrefs, and the frame claim from a run that forgets the outputs. -/
module

public import proofs.«01_k».proof.Proof.KernelOffsets

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers the lines after the region WRITE, as references: results computed from contents the run does not name
    (an operand the body wrote by its own DMA, or a forgotten output), so nothing is stated of them either. -/
def T0 : Finset (Ref sig .tc) := {main_v7, main_v8}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- The frame from any run that leaves the forgotten outputs and what the host computes from them out. -/
theorem frame_of_forget (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 21 = 0 :=
  (fun t => by
    have ht : t.val < 21 := Nat.lt_of_lt_of_eq t.isLt N_0
    have e0 : (grid0.coords t 0).val = t.val / 1 % 21 := Pipeline.Grid.coords_val t 0 (by decide) rfl
    simp only [cond0_0, e0]
    word_cmp
   : ∀ t : Fin grid0.N, cond0_0 (grid0.coords t) ↔ t.val % 21 = 0)

/-- The condition of the body's `scf.if` 1 (`k0_h2`), from the grid coordinates (the skeleton's scalar
    chain substituted). -/
abbrev cond0_1 (i : grid0.Coords) : Prop := k0_cond2 i = 1#1
/-- It holds at the points from point 1 on — decided over the grid. -/
theorem hcond0_1 : ∀ t : Fin cfg0.N, cond0_1 (grid0.coords t) ↔ 1 ≤ t.val :=
  (by decide +kernel : ∀ t : Fin grid0.N, cond0_1 (grid0.coords t) ↔ 1 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The staging and scratch memrefs -/

/-- Each window's current staging memref at point `t`, spelled as the pipeline passes it (`bodyAt0`), and its wholeness. -/
abbrev ms0_0 (t : Fin cfg0.N) : Memref sig .tc .vmem S1x792x128 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x160 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x160 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x160 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x20x144x160 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x20x144x160 .bf16 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S2x20x288x128 .bf16 := Memref.whole cc0_scratch0
abbrev scM0_1 : Memref sig .tc .vmem S256x160 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Gen

end
-- ==== Proof.KernelRunA.lean ====
/- The whole body of the bit-exact kernel at the first point: it runs, and hands back every buffer it was given. -/
module

public import proofs.«01_k».proof.Proof.KernelPoints

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: checking it walks past the default budget)
set_option maxHeartbeats 3696000 in
/-- The body's triple IN CASE A (`scf.if` 0 taken, `scf.if` 1 not taken: points 0): on whole staging memrefs — the inputs' at their contents,
    the FORGOTTEN outputs' (4, 5) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .vmem S1x792x128 .i32) (harg1 : arg1.IsWhole) (arg2 : Memref sig .tc .vmem S256x160 .fp8e4m3) (harg2 : arg2.IsWhole) (arg3 : Memref sig .tc .vmem S1x160 .f32) (harg3 : arg3.IsWhole) (arg4 : Memref sig .tc .vmem S1x160 .f32) (harg4 : arg4.IsWhole) (arg5 : Memref sig .tc .vmem S1x20x144x160 .bf16) (harg5 : arg5.IsWhole) (arg6 : Memref sig .tc .vmem S1x20x144x160 .bf16) (harg6 : arg6.IsWhole) (arg7 : Memref sig .tc .vmem S2x20x288x128 .bf16) (harg7 : arg7.IsWhole) (arg8 : Memref sig .tc .vmem S256x160 .bf16) (harg8 : arg8.IsWhole) (hc0 : cond0_0 i) (hc1 : ¬cond0_1 i)
    (x0 : Vec F S1x792x128 .i32) (x1 : Vec F S256x160 .fp8e4m3) (x2 : Vec F S1x160 .f32) (x3 : Vec F S1x160 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc0_conv i arg1 harg1 arg2 harg2 arg3 harg3 arg4 harg4 arg5 harg5 arg6 harg6 arg7 harg7 arg8 harg8) K := by
    intro E K
    simp only [cc0_conv_eq_skeleton]; unfold cc0_conv_skel
    simp only [k0_part59_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [H5]
    · iexists _, _; isplitr; swap; · iexact H5
      ipureintro; rfl
    isplitl [HS0]
    · iexists _, _; isplitr; swap; · iexact HS0
      ipureintro; rfl
    iexists _, _; isplitr; swap; · iexact HS1
    ipureintro; rfl

end Cert.Kernel.Gen

end
-- ==== Proof.KernelRunB.lean ====
/- The whole body of the bit-exact kernel at every point but the first: it runs, and hands back every buffer it was given. -/
module

public import proofs.«01_k».proof.Proof.KernelRunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: checking it walks past the default budget)
set_option maxHeartbeats 4768000 in
/-- The body's triple IN CASE B (`scf.if` 0 not taken, `scf.if` 1 taken: points 1, 2, … 20: 20 of 21): on whole staging memrefs — the inputs' at their contents,
    the FORGOTTEN outputs' (4, 5) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .vmem S1x792x128 .i32) (harg1 : arg1.IsWhole) (arg2 : Memref sig .tc .vmem S256x160 .fp8e4m3) (harg2 : arg2.IsWhole) (arg3 : Memref sig .tc .vmem S1x160 .f32) (harg3 : arg3.IsWhole) (arg4 : Memref sig .tc .vmem S1x160 .f32) (harg4 : arg4.IsWhole) (arg5 : Memref sig .tc .vmem S1x20x144x160 .bf16) (harg5 : arg5.IsWhole) (arg6 : Memref sig .tc .vmem S1x20x144x160 .bf16) (harg6 : arg6.IsWhole) (arg7 : Memref sig .tc .vmem S2x20x288x128 .bf16) (harg7 : arg7.IsWhole) (arg8 : Memref sig .tc .vmem S256x160 .bf16) (harg8 : arg8.IsWhole) (hc0 : ¬cond0_0 i) (hc1 : cond0_1 i)
    (x0 : Vec F S1x792x128 .i32) (x1 : Vec F S256x160 .fp8e4m3) (x2 : Vec F S1x160 .f32) (x3 : Vec F S1x160 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc0_conv i arg1 harg1 arg2 harg2 arg3 harg3 arg4 harg4 arg5 harg5 arg6 harg6 arg7 harg7 arg8 harg8) K := by
    intro E K
    simp only [cc0_conv_eq_skeleton]; unfold cc0_conv_skel
    simp only [k0_part59_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [H5]
    · iexists _, _; isplitr; swap; · iexact H5
      ipureintro; rfl
    isplitl [HS0]
    · iexists _, _; isplitr; swap; · iexact HS0
      ipureintro; rfl
    iexists _, _; isplitr; swap; · iexact HS1
    ipureintro; rfl

end Cert.Kernel.Gen

end
-- ==== Proof.KernelFrame.lean ====
/- The frame of the bit-exact kernel: the body at every point, the run of the whole program, and what it leaves unchanged. -/
module

public import proofs.«01_k».proof.Proof.KernelRunB
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (4, 5): nothing reads what the kernel leaves in them, so nothing
    of it is named (Lib/Pipeline/Dat.lean `Dat.toRForget`). -/
def forgets0 : Fin 6 → Bool := fun w => w.val == 4 || w.val == 5

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (∃ d, owns (c : Thread nD τ) (ms0_4 t) fullShare d)
    ∗ (∃ d, owns (c : Thread nD τ) (ms0_5 t) fullShare d))

set_option maxHeartbeats 1600000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 21 := lt_of_lt_of_eq t.isLt (show cfg0.N = 21 from N_0)
  by_cases h0 : t.val % 21 = 0
  · by_cases h1 : 1 ≤ t.val
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t)) Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, H4, H5, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      iexact H5
  · by_cases h1 : 1 ≤ t.val
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ _ _ (fun h => h0 ((hcond0_0 t).mp h)) ((hcond0_1 t).mpr h1) (iblk m c 0 t) (iblk m c 1 t) (iblk m c 2 t) (iblk m c 3 t)) Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, H4, H5, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      iexact H5
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_around_T_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 4, 5) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of_forget m ρ (fun c => (dats m 0 c).toRForget forgets0) (A_eq m) (run_main m ρ)

/-- The frame of the bit-exact kernel: it ends, leaves its arguments as they were, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Gen

end
-- ==== Proof.IdealOffsets.lean ====
/- Where the idealized kernel's stores into its scratch `arg7` land, in closed form: block `(slot, ow, 32 g, 0)`, the slot the
   parity of the grid point, and where its loads from it land. -/
module

public import proofs.«01_k».proof.Proof.Gen.KernelIdeal.Frame
public import proofs.«01_k».proof.Proof.Gen.KernelIdeal.Skeleton

@[expose] public section

namespace Cert.KernelIdeal.Gen

open Idealize.ShloMosaic Idealize.ShloMosaic.Tactic

variable (i : grid0.Coords)

instance : ClosedOff (k0_off1 i) := ⟨![(i 0).val % 2, 0, 0, 0], (by decide +kernel : ∀ i, k0_off1 i = ![(i 0).val % 2, 0, 0, 0]) i⟩
instance : ClosedOff (k0_off2 i) := ⟨![(i 0).val % 2, 2, 0, 0], (by decide +kernel : ∀ i, k0_off2 i = ![(i 0).val % 2, 2, 0, 0]) i⟩
instance : ClosedOff (k0_off3 i) := ⟨![(i 0).val % 2, 1, 0, 0], (by decide +kernel : ∀ i, k0_off3 i = ![(i 0).val % 2, 1, 0, 0]) i⟩
instance : ClosedOff (k0_off4 i) := ⟨![(i 0).val % 2, 4, 0, 0], (by decide +kernel : ∀ i, k0_off4 i = ![(i 0).val % 2, 4, 0, 0]) i⟩
instance : ClosedOff (k0_off5 i) := ⟨![(i 0).val % 2, 3, 0, 0], (by decide +kernel : ∀ i, k0_off5 i = ![(i 0).val % 2, 3, 0, 0]) i⟩
instance : ClosedOff (k0_off6 i) := ⟨![(i 0).val % 2, 6, 0, 0], (by decide +kernel : ∀ i, k0_off6 i = ![(i 0).val % 2, 6, 0, 0]) i⟩
instance : ClosedOff (k0_off7 i) := ⟨![(i 0).val % 2, 5, 0, 0], (by decide +kernel : ∀ i, k0_off7 i = ![(i 0).val % 2, 5, 0, 0]) i⟩
instance : ClosedOff (k0_off8 i) := ⟨![(i 0).val % 2, 8, 0, 0], (by decide +kernel : ∀ i, k0_off8 i = ![(i 0).val % 2, 8, 0, 0]) i⟩
instance : ClosedOff (k0_off9 i) := ⟨![(i 0).val % 2, 7, 0, 0], (by decide +kernel : ∀ i, k0_off9 i = ![(i 0).val % 2, 7, 0, 0]) i⟩
instance : ClosedOff (k0_off10 i) := ⟨![(i 0).val % 2, 10, 0, 0], (by decide +kernel : ∀ i, k0_off10 i = ![(i 0).val % 2, 10, 0, 0]) i⟩
instance : ClosedOff (k0_off11 i) := ⟨![(i 0).val % 2, 9, 0, 0], (by decide +kernel : ∀ i, k0_off11 i = ![(i 0).val % 2, 9, 0, 0]) i⟩
instance : ClosedOff (k0_off12 i) := ⟨![(i 0).val % 2, 12, 0, 0], (by decide +kernel : ∀ i, k0_off12 i = ![(i 0).val % 2, 12, 0, 0]) i⟩
instance : ClosedOff (k0_off13 i) := ⟨![(i 0).val % 2, 11, 0, 0], (by decide +kernel : ∀ i, k0_off13 i = ![(i 0).val % 2, 11, 0, 0]) i⟩
instance : ClosedOff (k0_off14 i) := ⟨![(i 0).val % 2, 14, 0, 0], (by decide +kernel : ∀ i, k0_off14 i = ![(i 0).val % 2, 14, 0, 0]) i⟩
instance : ClosedOff (k0_off15 i) := ⟨![(i 0).val % 2, 13, 0, 0], (by decide +kernel : ∀ i, k0_off15 i = ![(i 0).val % 2, 13, 0, 0]) i⟩
instance : ClosedOff (k0_off16 i) := ⟨![(i 0).val % 2, 16, 0, 0], (by decide +kernel : ∀ i, k0_off16 i = ![(i 0).val % 2, 16, 0, 0]) i⟩
instance : ClosedOff (k0_off17 i) := ⟨![(i 0).val % 2, 15, 0, 0], (by decide +kernel : ∀ i, k0_off17 i = ![(i 0).val % 2, 15, 0, 0]) i⟩
instance : ClosedOff (k0_off18 i) := ⟨![(i 0).val % 2, 18, 0, 0], (by decide +kernel : ∀ i, k0_off18 i = ![(i 0).val % 2, 18, 0, 0]) i⟩
instance : ClosedOff (k0_off19 i) := ⟨![(i 0).val % 2, 17, 0, 0], (by decide +kernel : ∀ i, k0_off19 i = ![(i 0).val % 2, 17, 0, 0]) i⟩
instance : ClosedOff (k0_off20 i) := ⟨![(i 0).val % 2, 19, 0, 0], (by decide +kernel : ∀ i, k0_off20 i = ![(i 0).val % 2, 19, 0, 0]) i⟩
instance : ClosedOff (k0_off21 i) := ⟨![(i 0).val % 2, 0, 32, 0], (by decide +kernel : ∀ i, k0_off21 i = ![(i 0).val % 2, 0, 32, 0]) i⟩
instance : ClosedOff (k0_off22 i) := ⟨![(i 0).val % 2, 2, 32, 0], (by decide +kernel : ∀ i, k0_off22 i = ![(i 0).val % 2, 2, 32, 0]) i⟩
instance : ClosedOff (k0_off23 i) := ⟨![(i 0).val % 2, 1, 32, 0], (by decide +kernel : ∀ i, k0_off23 i = ![(i 0).val % 2, 1, 32, 0]) i⟩
instance : ClosedOff (k0_off24 i) := ⟨![(i 0).val % 2, 4, 32, 0], (by decide +kernel : ∀ i, k0_off24 i = ![(i 0).val % 2, 4, 32, 0]) i⟩
instance : ClosedOff (k0_off25 i) := ⟨![(i 0).val % 2, 3, 32, 0], (by decide +kernel : ∀ i, k0_off25 i = ![(i 0).val % 2, 3, 32, 0]) i⟩
instance : ClosedOff (k0_off26 i) := ⟨![(i 0).val % 2, 6, 32, 0], (by decide +kernel : ∀ i, k0_off26 i = ![(i 0).val % 2, 6, 32, 0]) i⟩
instance : ClosedOff (k0_off27 i) := ⟨![(i 0).val % 2, 5, 32, 0], (by decide +kernel : ∀ i, k0_off27 i = ![(i 0).val % 2, 5, 32, 0]) i⟩
instance : ClosedOff (k0_off28 i) := ⟨![(i 0).val % 2, 8, 32, 0], (by decide +kernel : ∀ i, k0_off28 i = ![(i 0).val % 2, 8, 32, 0]) i⟩
instance : ClosedOff (k0_off29 i) := ⟨![(i 0).val % 2, 7, 32, 0], (by decide +kernel : ∀ i, k0_off29 i = ![(i 0).val % 2, 7, 32, 0]) i⟩
instance : ClosedOff (k0_off30 i) := ⟨![(i 0).val % 2, 10, 32, 0], (by decide +kernel : ∀ i, k0_off30 i = ![(i 0).val % 2, 10, 32, 0]) i⟩
instance : ClosedOff (k0_off31 i) := ⟨![(i 0).val % 2, 9, 32, 0], (by decide +kernel : ∀ i, k0_off31 i = ![(i 0).val % 2, 9, 32, 0]) i⟩
instance : ClosedOff (k0_off32 i) := ⟨![(i 0).val % 2, 12, 32, 0], (by decide +kernel : ∀ i, k0_off32 i = ![(i 0).val % 2, 12, 32, 0]) i⟩
instance : ClosedOff (k0_off33 i) := ⟨![(i 0).val % 2, 11, 32, 0], (by decide +kernel : ∀ i, k0_off33 i = ![(i 0).val % 2, 11, 32, 0]) i⟩
instance : ClosedOff (k0_off34 i) := ⟨![(i 0).val % 2, 14, 32, 0], (by decide +kernel : ∀ i, k0_off34 i = ![(i 0).val % 2, 14, 32, 0]) i⟩
instance : ClosedOff (k0_off35 i) := ⟨![(i 0).val % 2, 13, 32, 0], (by decide +kernel : ∀ i, k0_off35 i = ![(i 0).val % 2, 13, 32, 0]) i⟩
instance : ClosedOff (k0_off36 i) := ⟨![(i 0).val % 2, 16, 32, 0], (by decide +kernel : ∀ i, k0_off36 i = ![(i 0).val % 2, 16, 32, 0]) i⟩
instance : ClosedOff (k0_off37 i) := ⟨![(i 0).val % 2, 15, 32, 0], (by decide +kernel : ∀ i, k0_off37 i = ![(i 0).val % 2, 15, 32, 0]) i⟩
instance : ClosedOff (k0_off38 i) := ⟨![(i 0).val % 2, 18, 32, 0], (by decide +kernel : ∀ i, k0_off38 i = ![(i 0).val % 2, 18, 32, 0]) i⟩
instance : ClosedOff (k0_off39 i) := ⟨![(i 0).val % 2, 17, 32, 0], (by decide +kernel : ∀ i, k0_off39 i = ![(i 0).val % 2, 17, 32, 0]) i⟩
instance : ClosedOff (k0_off40 i) := ⟨![(i 0).val % 2, 19, 32, 0], (by decide +kernel : ∀ i, k0_off40 i = ![(i 0).val % 2, 19, 32, 0]) i⟩
instance : ClosedOff (k0_off41 i) := ⟨![(i 0).val % 2, 0, 64, 0], (by decide +kernel : ∀ i, k0_off41 i = ![(i 0).val % 2, 0, 64, 0]) i⟩
instance : ClosedOff (k0_off42 i) := ⟨![(i 0).val % 2, 2, 64, 0], (by decide +kernel : ∀ i, k0_off42 i = ![(i 0).val % 2, 2, 64, 0]) i⟩
instance : ClosedOff (k0_off43 i) := ⟨![(i 0).val % 2, 1, 64, 0], (by decide +kernel : ∀ i, k0_off43 i = ![(i 0).val % 2, 1, 64, 0]) i⟩
instance : ClosedOff (k0_off44 i) := ⟨![(i 0).val % 2, 4, 64, 0], (by decide +kernel : ∀ i, k0_off44 i = ![(i 0).val % 2, 4, 64, 0]) i⟩
instance : ClosedOff (k0_off45 i) := ⟨![(i 0).val % 2, 3, 64, 0], (by decide +kernel : ∀ i, k0_off45 i = ![(i 0).val % 2, 3, 64, 0]) i⟩
instance : ClosedOff (k0_off46 i) := ⟨![(i 0).val % 2, 6, 64, 0], (by decide +kernel : ∀ i, k0_off46 i = ![(i 0).val % 2, 6, 64, 0]) i⟩
instance : ClosedOff (k0_off47 i) := ⟨![(i 0).val % 2, 5, 64, 0], (by decide +kernel : ∀ i, k0_off47 i = ![(i 0).val % 2, 5, 64, 0]) i⟩
instance : ClosedOff (k0_off48 i) := ⟨![(i 0).val % 2, 8, 64, 0], (by decide +kernel : ∀ i, k0_off48 i = ![(i 0).val % 2, 8, 64, 0]) i⟩
instance : ClosedOff (k0_off49 i) := ⟨![(i 0).val % 2, 7, 64, 0], (by decide +kernel : ∀ i, k0_off49 i = ![(i 0).val % 2, 7, 64, 0]) i⟩
instance : ClosedOff (k0_off50 i) := ⟨![(i 0).val % 2, 10, 64, 0], (by decide +kernel : ∀ i, k0_off50 i = ![(i 0).val % 2, 10, 64, 0]) i⟩
instance : ClosedOff (k0_off51 i) := ⟨![(i 0).val % 2, 9, 64, 0], (by decide +kernel : ∀ i, k0_off51 i = ![(i 0).val % 2, 9, 64, 0]) i⟩
instance : ClosedOff (k0_off52 i) := ⟨![(i 0).val % 2, 12, 64, 0], (by decide +kernel : ∀ i, k0_off52 i = ![(i 0).val % 2, 12, 64, 0]) i⟩
instance : ClosedOff (k0_off53 i) := ⟨![(i 0).val % 2, 11, 64, 0], (by decide +kernel : ∀ i, k0_off53 i = ![(i 0).val % 2, 11, 64, 0]) i⟩
instance : ClosedOff (k0_off54 i) := ⟨![(i 0).val % 2, 14, 64, 0], (by decide +kernel : ∀ i, k0_off54 i = ![(i 0).val % 2, 14, 64, 0]) i⟩
instance : ClosedOff (k0_off55 i) := ⟨![(i 0).val % 2, 13, 64, 0], (by decide +kernel : ∀ i, k0_off55 i = ![(i 0).val % 2, 13, 64, 0]) i⟩
instance : ClosedOff (k0_off56 i) := ⟨![(i 0).val % 2, 16, 64, 0], (by decide +kernel : ∀ i, k0_off56 i = ![(i 0).val % 2, 16, 64, 0]) i⟩
instance : ClosedOff (k0_off57 i) := ⟨![(i 0).val % 2, 15, 64, 0], (by decide +kernel : ∀ i, k0_off57 i = ![(i 0).val % 2, 15, 64, 0]) i⟩
instance : ClosedOff (k0_off58 i) := ⟨![(i 0).val % 2, 18, 64, 0], (by decide +kernel : ∀ i, k0_off58 i = ![(i 0).val % 2, 18, 64, 0]) i⟩
instance : ClosedOff (k0_off59 i) := ⟨![(i 0).val % 2, 17, 64, 0], (by decide +kernel : ∀ i, k0_off59 i = ![(i 0).val % 2, 17, 64, 0]) i⟩
instance : ClosedOff (k0_off60 i) := ⟨![(i 0).val % 2, 19, 64, 0], (by decide +kernel : ∀ i, k0_off60 i = ![(i 0).val % 2, 19, 64, 0]) i⟩
instance : ClosedOff (k0_off61 i) := ⟨![(i 0).val % 2, 0, 96, 0], (by decide +kernel : ∀ i, k0_off61 i = ![(i 0).val % 2, 0, 96, 0]) i⟩
instance : ClosedOff (k0_off62 i) := ⟨![(i 0).val % 2, 2, 96, 0], (by decide +kernel : ∀ i, k0_off62 i = ![(i 0).val % 2, 2, 96, 0]) i⟩
instance : ClosedOff (k0_off63 i) := ⟨![(i 0).val % 2, 1, 96, 0], (by decide +kernel : ∀ i, k0_off63 i = ![(i 0).val % 2, 1, 96, 0]) i⟩
instance : ClosedOff (k0_off64 i) := ⟨![(i 0).val % 2, 4, 96, 0], (by decide +kernel : ∀ i, k0_off64 i = ![(i 0).val % 2, 4, 96, 0]) i⟩
instance : ClosedOff (k0_off65 i) := ⟨![(i 0).val % 2, 3, 96, 0], (by decide +kernel : ∀ i, k0_off65 i = ![(i 0).val % 2, 3, 96, 0]) i⟩
instance : ClosedOff (k0_off66 i) := ⟨![(i 0).val % 2, 6, 96, 0], (by decide +kernel : ∀ i, k0_off66 i = ![(i 0).val % 2, 6, 96, 0]) i⟩
instance : ClosedOff (k0_off67 i) := ⟨![(i 0).val % 2, 5, 96, 0], (by decide +kernel : ∀ i, k0_off67 i = ![(i 0).val % 2, 5, 96, 0]) i⟩
instance : ClosedOff (k0_off68 i) := ⟨![(i 0).val % 2, 8, 96, 0], (by decide +kernel : ∀ i, k0_off68 i = ![(i 0).val % 2, 8, 96, 0]) i⟩
instance : ClosedOff (k0_off69 i) := ⟨![(i 0).val % 2, 7, 96, 0], (by decide +kernel : ∀ i, k0_off69 i = ![(i 0).val % 2, 7, 96, 0]) i⟩
instance : ClosedOff (k0_off70 i) := ⟨![(i 0).val % 2, 10, 96, 0], (by decide +kernel : ∀ i, k0_off70 i = ![(i 0).val % 2, 10, 96, 0]) i⟩
instance : ClosedOff (k0_off71 i) := ⟨![(i 0).val % 2, 9, 96, 0], (by decide +kernel : ∀ i, k0_off71 i = ![(i 0).val % 2, 9, 96, 0]) i⟩
instance : ClosedOff (k0_off72 i) := ⟨![(i 0).val % 2, 12, 96, 0], (by decide +kernel : ∀ i, k0_off72 i = ![(i 0).val % 2, 12, 96, 0]) i⟩
instance : ClosedOff (k0_off73 i) := ⟨![(i 0).val % 2, 11, 96, 0], (by decide +kernel : ∀ i, k0_off73 i = ![(i 0).val % 2, 11, 96, 0]) i⟩
instance : ClosedOff (k0_off74 i) := ⟨![(i 0).val % 2, 14, 96, 0], (by decide +kernel : ∀ i, k0_off74 i = ![(i 0).val % 2, 14, 96, 0]) i⟩
instance : ClosedOff (k0_off75 i) := ⟨![(i 0).val % 2, 13, 96, 0], (by decide +kernel : ∀ i, k0_off75 i = ![(i 0).val % 2, 13, 96, 0]) i⟩
instance : ClosedOff (k0_off76 i) := ⟨![(i 0).val % 2, 16, 96, 0], (by decide +kernel : ∀ i, k0_off76 i = ![(i 0).val % 2, 16, 96, 0]) i⟩
instance : ClosedOff (k0_off77 i) := ⟨![(i 0).val % 2, 15, 96, 0], (by decide +kernel : ∀ i, k0_off77 i = ![(i 0).val % 2, 15, 96, 0]) i⟩
instance : ClosedOff (k0_off78 i) := ⟨![(i 0).val % 2, 18, 96, 0], (by decide +kernel : ∀ i, k0_off78 i = ![(i 0).val % 2, 18, 96, 0]) i⟩
instance : ClosedOff (k0_off79 i) := ⟨![(i 0).val % 2, 17, 96, 0], (by decide +kernel : ∀ i, k0_off79 i = ![(i 0).val % 2, 17, 96, 0]) i⟩
instance : ClosedOff (k0_off80 i) := ⟨![(i 0).val % 2, 19, 96, 0], (by decide +kernel : ∀ i, k0_off80 i = ![(i 0).val % 2, 19, 96, 0]) i⟩
instance : ClosedOff (k0_off81 i) := ⟨![(i 0).val % 2, 0, 128, 0], (by decide +kernel : ∀ i, k0_off81 i = ![(i 0).val % 2, 0, 128, 0]) i⟩
instance : ClosedOff (k0_off82 i) := ⟨![(i 0).val % 2, 2, 128, 0], (by decide +kernel : ∀ i, k0_off82 i = ![(i 0).val % 2, 2, 128, 0]) i⟩
instance : ClosedOff (k0_off83 i) := ⟨![(i 0).val % 2, 1, 128, 0], (by decide +kernel : ∀ i, k0_off83 i = ![(i 0).val % 2, 1, 128, 0]) i⟩
instance : ClosedOff (k0_off84 i) := ⟨![(i 0).val % 2, 4, 128, 0], (by decide +kernel : ∀ i, k0_off84 i = ![(i 0).val % 2, 4, 128, 0]) i⟩
instance : ClosedOff (k0_off85 i) := ⟨![(i 0).val % 2, 3, 128, 0], (by decide +kernel : ∀ i, k0_off85 i = ![(i 0).val % 2, 3, 128, 0]) i⟩
instance : ClosedOff (k0_off86 i) := ⟨![(i 0).val % 2, 6, 128, 0], (by decide +kernel : ∀ i, k0_off86 i = ![(i 0).val % 2, 6, 128, 0]) i⟩
instance : ClosedOff (k0_off87 i) := ⟨![(i 0).val % 2, 5, 128, 0], (by decide +kernel : ∀ i, k0_off87 i = ![(i 0).val % 2, 5, 128, 0]) i⟩
instance : ClosedOff (k0_off88 i) := ⟨![(i 0).val % 2, 8, 128, 0], (by decide +kernel : ∀ i, k0_off88 i = ![(i 0).val % 2, 8, 128, 0]) i⟩
instance : ClosedOff (k0_off89 i) := ⟨![(i 0).val % 2, 7, 128, 0], (by decide +kernel : ∀ i, k0_off89 i = ![(i 0).val % 2, 7, 128, 0]) i⟩
instance : ClosedOff (k0_off90 i) := ⟨![(i 0).val % 2, 10, 128, 0], (by decide +kernel : ∀ i, k0_off90 i = ![(i 0).val % 2, 10, 128, 0]) i⟩
instance : ClosedOff (k0_off91 i) := ⟨![(i 0).val % 2, 9, 128, 0], (by decide +kernel : ∀ i, k0_off91 i = ![(i 0).val % 2, 9, 128, 0]) i⟩
instance : ClosedOff (k0_off92 i) := ⟨![(i 0).val % 2, 12, 128, 0], (by decide +kernel : ∀ i, k0_off92 i = ![(i 0).val % 2, 12, 128, 0]) i⟩
instance : ClosedOff (k0_off93 i) := ⟨![(i 0).val % 2, 11, 128, 0], (by decide +kernel : ∀ i, k0_off93 i = ![(i 0).val % 2, 11, 128, 0]) i⟩
instance : ClosedOff (k0_off94 i) := ⟨![(i 0).val % 2, 14, 128, 0], (by decide +kernel : ∀ i, k0_off94 i = ![(i 0).val % 2, 14, 128, 0]) i⟩
instance : ClosedOff (k0_off95 i) := ⟨![(i 0).val % 2, 13, 128, 0], (by decide +kernel : ∀ i, k0_off95 i = ![(i 0).val % 2, 13, 128, 0]) i⟩
instance : ClosedOff (k0_off96 i) := ⟨![(i 0).val % 2, 16, 128, 0], (by decide +kernel : ∀ i, k0_off96 i = ![(i 0).val % 2, 16, 128, 0]) i⟩
instance : ClosedOff (k0_off97 i) := ⟨![(i 0).val % 2, 15, 128, 0], (by decide +kernel : ∀ i, k0_off97 i = ![(i 0).val % 2, 15, 128, 0]) i⟩
instance : ClosedOff (k0_off98 i) := ⟨![(i 0).val % 2, 18, 128, 0], (by decide +kernel : ∀ i, k0_off98 i = ![(i 0).val % 2, 18, 128, 0]) i⟩
instance : ClosedOff (k0_off99 i) := ⟨![(i 0).val % 2, 17, 128, 0], (by decide +kernel : ∀ i, k0_off99 i = ![(i 0).val % 2, 17, 128, 0]) i⟩
instance : ClosedOff (k0_off100 i) := ⟨![(i 0).val % 2, 19, 128, 0], (by decide +kernel : ∀ i, k0_off100 i = ![(i 0).val % 2, 19, 128, 0]) i⟩
instance : ClosedOff (k0_off101 i) := ⟨![(i 0).val % 2, 0, 160, 0], (by decide +kernel : ∀ i, k0_off101 i = ![(i 0).val % 2, 0, 160, 0]) i⟩
instance : ClosedOff (k0_off102 i) := ⟨![(i 0).val % 2, 2, 160, 0], (by decide +kernel : ∀ i, k0_off102 i = ![(i 0).val % 2, 2, 160, 0]) i⟩
instance : ClosedOff (k0_off103 i) := ⟨![(i 0).val % 2, 1, 160, 0], (by decide +kernel : ∀ i, k0_off103 i = ![(i 0).val % 2, 1, 160, 0]) i⟩
instance : ClosedOff (k0_off104 i) := ⟨![(i 0).val % 2, 4, 160, 0], (by decide +kernel : ∀ i, k0_off104 i = ![(i 0).val % 2, 4, 160, 0]) i⟩
instance : ClosedOff (k0_off105 i) := ⟨![(i 0).val % 2, 3, 160, 0], (by decide +kernel : ∀ i, k0_off105 i = ![(i 0).val % 2, 3, 160, 0]) i⟩
instance : ClosedOff (k0_off106 i) := ⟨![(i 0).val % 2, 6, 160, 0], (by decide +kernel : ∀ i, k0_off106 i = ![(i 0).val % 2, 6, 160, 0]) i⟩
instance : ClosedOff (k0_off107 i) := ⟨![(i 0).val % 2, 5, 160, 0], (by decide +kernel : ∀ i, k0_off107 i = ![(i 0).val % 2, 5, 160, 0]) i⟩
instance : ClosedOff (k0_off108 i) := ⟨![(i 0).val % 2, 8, 160, 0], (by decide +kernel : ∀ i, k0_off108 i = ![(i 0).val % 2, 8, 160, 0]) i⟩
instance : ClosedOff (k0_off109 i) := ⟨![(i 0).val % 2, 7, 160, 0], (by decide +kernel : ∀ i, k0_off109 i = ![(i 0).val % 2, 7, 160, 0]) i⟩
instance : ClosedOff (k0_off110 i) := ⟨![(i 0).val % 2, 10, 160, 0], (by decide +kernel : ∀ i, k0_off110 i = ![(i 0).val % 2, 10, 160, 0]) i⟩
instance : ClosedOff (k0_off111 i) := ⟨![(i 0).val % 2, 9, 160, 0], (by decide +kernel : ∀ i, k0_off111 i = ![(i 0).val % 2, 9, 160, 0]) i⟩
instance : ClosedOff (k0_off112 i) := ⟨![(i 0).val % 2, 12, 160, 0], (by decide +kernel : ∀ i, k0_off112 i = ![(i 0).val % 2, 12, 160, 0]) i⟩
instance : ClosedOff (k0_off113 i) := ⟨![(i 0).val % 2, 11, 160, 0], (by decide +kernel : ∀ i, k0_off113 i = ![(i 0).val % 2, 11, 160, 0]) i⟩
instance : ClosedOff (k0_off114 i) := ⟨![(i 0).val % 2, 14, 160, 0], (by decide +kernel : ∀ i, k0_off114 i = ![(i 0).val % 2, 14, 160, 0]) i⟩
instance : ClosedOff (k0_off115 i) := ⟨![(i 0).val % 2, 13, 160, 0], (by decide +kernel : ∀ i, k0_off115 i = ![(i 0).val % 2, 13, 160, 0]) i⟩
instance : ClosedOff (k0_off116 i) := ⟨![(i 0).val % 2, 16, 160, 0], (by decide +kernel : ∀ i, k0_off116 i = ![(i 0).val % 2, 16, 160, 0]) i⟩
instance : ClosedOff (k0_off117 i) := ⟨![(i 0).val % 2, 15, 160, 0], (by decide +kernel : ∀ i, k0_off117 i = ![(i 0).val % 2, 15, 160, 0]) i⟩
instance : ClosedOff (k0_off118 i) := ⟨![(i 0).val % 2, 18, 160, 0], (by decide +kernel : ∀ i, k0_off118 i = ![(i 0).val % 2, 18, 160, 0]) i⟩
instance : ClosedOff (k0_off119 i) := ⟨![(i 0).val % 2, 17, 160, 0], (by decide +kernel : ∀ i, k0_off119 i = ![(i 0).val % 2, 17, 160, 0]) i⟩
instance : ClosedOff (k0_off120 i) := ⟨![(i 0).val % 2, 19, 160, 0], (by decide +kernel : ∀ i, k0_off120 i = ![(i 0).val % 2, 19, 160, 0]) i⟩
instance : ClosedOff (k0_off121 i) := ⟨![(i 0).val % 2, 0, 192, 0], (by decide +kernel : ∀ i, k0_off121 i = ![(i 0).val % 2, 0, 192, 0]) i⟩
instance : ClosedOff (k0_off122 i) := ⟨![(i 0).val % 2, 2, 192, 0], (by decide +kernel : ∀ i, k0_off122 i = ![(i 0).val % 2, 2, 192, 0]) i⟩
instance : ClosedOff (k0_off123 i) := ⟨![(i 0).val % 2, 1, 192, 0], (by decide +kernel : ∀ i, k0_off123 i = ![(i 0).val % 2, 1, 192, 0]) i⟩
instance : ClosedOff (k0_off124 i) := ⟨![(i 0).val % 2, 4, 192, 0], (by decide +kernel : ∀ i, k0_off124 i = ![(i 0).val % 2, 4, 192, 0]) i⟩
instance : ClosedOff (k0_off125 i) := ⟨![(i 0).val % 2, 3, 192, 0], (by decide +kernel : ∀ i, k0_off125 i = ![(i 0).val % 2, 3, 192, 0]) i⟩
instance : ClosedOff (k0_off126 i) := ⟨![(i 0).val % 2, 6, 192, 0], (by decide +kernel : ∀ i, k0_off126 i = ![(i 0).val % 2, 6, 192, 0]) i⟩
instance : ClosedOff (k0_off127 i) := ⟨![(i 0).val % 2, 5, 192, 0], (by decide +kernel : ∀ i, k0_off127 i = ![(i 0).val % 2, 5, 192, 0]) i⟩
instance : ClosedOff (k0_off128 i) := ⟨![(i 0).val % 2, 8, 192, 0], (by decide +kernel : ∀ i, k0_off128 i = ![(i 0).val % 2, 8, 192, 0]) i⟩
instance : ClosedOff (k0_off129 i) := ⟨![(i 0).val % 2, 7, 192, 0], (by decide +kernel : ∀ i, k0_off129 i = ![(i 0).val % 2, 7, 192, 0]) i⟩
instance : ClosedOff (k0_off130 i) := ⟨![(i 0).val % 2, 10, 192, 0], (by decide +kernel : ∀ i, k0_off130 i = ![(i 0).val % 2, 10, 192, 0]) i⟩
instance : ClosedOff (k0_off131 i) := ⟨![(i 0).val % 2, 9, 192, 0], (by decide +kernel : ∀ i, k0_off131 i = ![(i 0).val % 2, 9, 192, 0]) i⟩
instance : ClosedOff (k0_off132 i) := ⟨![(i 0).val % 2, 12, 192, 0], (by decide +kernel : ∀ i, k0_off132 i = ![(i 0).val % 2, 12, 192, 0]) i⟩
instance : ClosedOff (k0_off133 i) := ⟨![(i 0).val % 2, 11, 192, 0], (by decide +kernel : ∀ i, k0_off133 i = ![(i 0).val % 2, 11, 192, 0]) i⟩
instance : ClosedOff (k0_off134 i) := ⟨![(i 0).val % 2, 14, 192, 0], (by decide +kernel : ∀ i, k0_off134 i = ![(i 0).val % 2, 14, 192, 0]) i⟩
instance : ClosedOff (k0_off135 i) := ⟨![(i 0).val % 2, 13, 192, 0], (by decide +kernel : ∀ i, k0_off135 i = ![(i 0).val % 2, 13, 192, 0]) i⟩
instance : ClosedOff (k0_off136 i) := ⟨![(i 0).val % 2, 16, 192, 0], (by decide +kernel : ∀ i, k0_off136 i = ![(i 0).val % 2, 16, 192, 0]) i⟩
instance : ClosedOff (k0_off137 i) := ⟨![(i 0).val % 2, 15, 192, 0], (by decide +kernel : ∀ i, k0_off137 i = ![(i 0).val % 2, 15, 192, 0]) i⟩
instance : ClosedOff (k0_off138 i) := ⟨![(i 0).val % 2, 18, 192, 0], (by decide +kernel : ∀ i, k0_off138 i = ![(i 0).val % 2, 18, 192, 0]) i⟩
instance : ClosedOff (k0_off139 i) := ⟨![(i 0).val % 2, 17, 192, 0], (by decide +kernel : ∀ i, k0_off139 i = ![(i 0).val % 2, 17, 192, 0]) i⟩
instance : ClosedOff (k0_off140 i) := ⟨![(i 0).val % 2, 19, 192, 0], (by decide +kernel : ∀ i, k0_off140 i = ![(i 0).val % 2, 19, 192, 0]) i⟩
instance : ClosedOff (k0_off141 i) := ⟨![(i 0).val % 2, 0, 224, 0], (by decide +kernel : ∀ i, k0_off141 i = ![(i 0).val % 2, 0, 224, 0]) i⟩
instance : ClosedOff (k0_off142 i) := ⟨![(i 0).val % 2, 2, 224, 0], (by decide +kernel : ∀ i, k0_off142 i = ![(i 0).val % 2, 2, 224, 0]) i⟩
instance : ClosedOff (k0_off143 i) := ⟨![(i 0).val % 2, 1, 224, 0], (by decide +kernel : ∀ i, k0_off143 i = ![(i 0).val % 2, 1, 224, 0]) i⟩
instance : ClosedOff (k0_off144 i) := ⟨![(i 0).val % 2, 4, 224, 0], (by decide +kernel : ∀ i, k0_off144 i = ![(i 0).val % 2, 4, 224, 0]) i⟩
instance : ClosedOff (k0_off145 i) := ⟨![(i 0).val % 2, 3, 224, 0], (by decide +kernel : ∀ i, k0_off145 i = ![(i 0).val % 2, 3, 224, 0]) i⟩
instance : ClosedOff (k0_off146 i) := ⟨![(i 0).val % 2, 6, 224, 0], (by decide +kernel : ∀ i, k0_off146 i = ![(i 0).val % 2, 6, 224, 0]) i⟩
instance : ClosedOff (k0_off147 i) := ⟨![(i 0).val % 2, 5, 224, 0], (by decide +kernel : ∀ i, k0_off147 i = ![(i 0).val % 2, 5, 224, 0]) i⟩
instance : ClosedOff (k0_off148 i) := ⟨![(i 0).val % 2, 8, 224, 0], (by decide +kernel : ∀ i, k0_off148 i = ![(i 0).val % 2, 8, 224, 0]) i⟩
instance : ClosedOff (k0_off149 i) := ⟨![(i 0).val % 2, 7, 224, 0], (by decide +kernel : ∀ i, k0_off149 i = ![(i 0).val % 2, 7, 224, 0]) i⟩
instance : ClosedOff (k0_off150 i) := ⟨![(i 0).val % 2, 10, 224, 0], (by decide +kernel : ∀ i, k0_off150 i = ![(i 0).val % 2, 10, 224, 0]) i⟩
instance : ClosedOff (k0_off151 i) := ⟨![(i 0).val % 2, 9, 224, 0], (by decide +kernel : ∀ i, k0_off151 i = ![(i 0).val % 2, 9, 224, 0]) i⟩
instance : ClosedOff (k0_off152 i) := ⟨![(i 0).val % 2, 12, 224, 0], (by decide +kernel : ∀ i, k0_off152 i = ![(i 0).val % 2, 12, 224, 0]) i⟩
instance : ClosedOff (k0_off153 i) := ⟨![(i 0).val % 2, 11, 224, 0], (by decide +kernel : ∀ i, k0_off153 i = ![(i 0).val % 2, 11, 224, 0]) i⟩
instance : ClosedOff (k0_off154 i) := ⟨![(i 0).val % 2, 14, 224, 0], (by decide +kernel : ∀ i, k0_off154 i = ![(i 0).val % 2, 14, 224, 0]) i⟩
instance : ClosedOff (k0_off155 i) := ⟨![(i 0).val % 2, 13, 224, 0], (by decide +kernel : ∀ i, k0_off155 i = ![(i 0).val % 2, 13, 224, 0]) i⟩
instance : ClosedOff (k0_off156 i) := ⟨![(i 0).val % 2, 16, 224, 0], (by decide +kernel : ∀ i, k0_off156 i = ![(i 0).val % 2, 16, 224, 0]) i⟩
instance : ClosedOff (k0_off157 i) := ⟨![(i 0).val % 2, 15, 224, 0], (by decide +kernel : ∀ i, k0_off157 i = ![(i 0).val % 2, 15, 224, 0]) i⟩
instance : ClosedOff (k0_off158 i) := ⟨![(i 0).val % 2, 18, 224, 0], (by decide +kernel : ∀ i, k0_off158 i = ![(i 0).val % 2, 18, 224, 0]) i⟩
instance : ClosedOff (k0_off159 i) := ⟨![(i 0).val % 2, 17, 224, 0], (by decide +kernel : ∀ i, k0_off159 i = ![(i 0).val % 2, 17, 224, 0]) i⟩
instance : ClosedOff (k0_off160 i) := ⟨![(i 0).val % 2, 19, 224, 0], (by decide +kernel : ∀ i, k0_off160 i = ![(i 0).val % 2, 19, 224, 0]) i⟩
instance : ClosedOff (k0_off161 i) := ⟨![(i 0).val % 2, 0, 256, 0], (by decide +kernel : ∀ i, k0_off161 i = ![(i 0).val % 2, 0, 256, 0]) i⟩
instance : ClosedOff (k0_off162 i) := ⟨![(i 0).val % 2, 2, 256, 0], (by decide +kernel : ∀ i, k0_off162 i = ![(i 0).val % 2, 2, 256, 0]) i⟩
instance : ClosedOff (k0_off163 i) := ⟨![(i 0).val % 2, 1, 256, 0], (by decide +kernel : ∀ i, k0_off163 i = ![(i 0).val % 2, 1, 256, 0]) i⟩
instance : ClosedOff (k0_off164 i) := ⟨![(i 0).val % 2, 4, 256, 0], (by decide +kernel : ∀ i, k0_off164 i = ![(i 0).val % 2, 4, 256, 0]) i⟩
instance : ClosedOff (k0_off165 i) := ⟨![(i 0).val % 2, 3, 256, 0], (by decide +kernel : ∀ i, k0_off165 i = ![(i 0).val % 2, 3, 256, 0]) i⟩
instance : ClosedOff (k0_off166 i) := ⟨![(i 0).val % 2, 6, 256, 0], (by decide +kernel : ∀ i, k0_off166 i = ![(i 0).val % 2, 6, 256, 0]) i⟩
instance : ClosedOff (k0_off167 i) := ⟨![(i 0).val % 2, 5, 256, 0], (by decide +kernel : ∀ i, k0_off167 i = ![(i 0).val % 2, 5, 256, 0]) i⟩
instance : ClosedOff (k0_off168 i) := ⟨![(i 0).val % 2, 8, 256, 0], (by decide +kernel : ∀ i, k0_off168 i = ![(i 0).val % 2, 8, 256, 0]) i⟩
instance : ClosedOff (k0_off169 i) := ⟨![(i 0).val % 2, 7, 256, 0], (by decide +kernel : ∀ i, k0_off169 i = ![(i 0).val % 2, 7, 256, 0]) i⟩
instance : ClosedOff (k0_off170 i) := ⟨![(i 0).val % 2, 10, 256, 0], (by decide +kernel : ∀ i, k0_off170 i = ![(i 0).val % 2, 10, 256, 0]) i⟩
instance : ClosedOff (k0_off171 i) := ⟨![(i 0).val % 2, 9, 256, 0], (by decide +kernel : ∀ i, k0_off171 i = ![(i 0).val % 2, 9, 256, 0]) i⟩
instance : ClosedOff (k0_off172 i) := ⟨![(i 0).val % 2, 12, 256, 0], (by decide +kernel : ∀ i, k0_off172 i = ![(i 0).val % 2, 12, 256, 0]) i⟩
instance : ClosedOff (k0_off173 i) := ⟨![(i 0).val % 2, 11, 256, 0], (by decide +kernel : ∀ i, k0_off173 i = ![(i 0).val % 2, 11, 256, 0]) i⟩
instance : ClosedOff (k0_off174 i) := ⟨![(i 0).val % 2, 14, 256, 0], (by decide +kernel : ∀ i, k0_off174 i = ![(i 0).val % 2, 14, 256, 0]) i⟩
instance : ClosedOff (k0_off175 i) := ⟨![(i 0).val % 2, 13, 256, 0], (by decide +kernel : ∀ i, k0_off175 i = ![(i 0).val % 2, 13, 256, 0]) i⟩
instance : ClosedOff (k0_off176 i) := ⟨![(i 0).val % 2, 16, 256, 0], (by decide +kernel : ∀ i, k0_off176 i = ![(i 0).val % 2, 16, 256, 0]) i⟩
instance : ClosedOff (k0_off177 i) := ⟨![(i 0).val % 2, 15, 256, 0], (by decide +kernel : ∀ i, k0_off177 i = ![(i 0).val % 2, 15, 256, 0]) i⟩
instance : ClosedOff (k0_off178 i) := ⟨![(i 0).val % 2, 18, 256, 0], (by decide +kernel : ∀ i, k0_off178 i = ![(i 0).val % 2, 18, 256, 0]) i⟩
instance : ClosedOff (k0_off179 i) := ⟨![(i 0).val % 2, 17, 256, 0], (by decide +kernel : ∀ i, k0_off179 i = ![(i 0).val % 2, 17, 256, 0]) i⟩
instance : ClosedOff (k0_off180 i) := ⟨![(i 0).val % 2, 19, 256, 0], (by decide +kernel : ∀ i, k0_off180 i = ![(i 0).val % 2, 19, 256, 0]) i⟩
instance : ClosedOff (k0_off181 i) := ⟨![1 - (i 0).val % 2, 0, 0, 0], (by decide +kernel : ∀ i, k0_off181 i = ![1 - (i 0).val % 2, 0, 0, 0]) i⟩
instance : ClosedOff (k0_off182 i) := ⟨![(i 0).val % 2, 0, 0, 0], (by decide +kernel : ∀ i, k0_off182 i = ![(i 0).val % 2, 0, 0, 0]) i⟩
instance : ClosedOff (k0_off183 i) := ⟨![1 - (i 0).val % 2, 1, 0, 0], (by decide +kernel : ∀ i, k0_off183 i = ![1 - (i 0).val % 2, 1, 0, 0]) i⟩
instance : ClosedOff (k0_off184 i) := ⟨![(i 0).val % 2, 1, 0, 0], (by decide +kernel : ∀ i, k0_off184 i = ![(i 0).val % 2, 1, 0, 0]) i⟩
instance : ClosedOff (k0_off185 i) := ⟨![1 - (i 0).val % 2, 2, 0, 0], (by decide +kernel : ∀ i, k0_off185 i = ![1 - (i 0).val % 2, 2, 0, 0]) i⟩
instance : ClosedOff (k0_off186 i) := ⟨![(i 0).val % 2, 2, 0, 0], (by decide +kernel : ∀ i, k0_off186 i = ![(i 0).val % 2, 2, 0, 0]) i⟩
instance : ClosedOff (k0_off187 i) := ⟨![1 - (i 0).val % 2, 3, 0, 0], (by decide +kernel : ∀ i, k0_off187 i = ![1 - (i 0).val % 2, 3, 0, 0]) i⟩
instance : ClosedOff (k0_off188 i) := ⟨![(i 0).val % 2, 3, 0, 0], (by decide +kernel : ∀ i, k0_off188 i = ![(i 0).val % 2, 3, 0, 0]) i⟩
instance : ClosedOff (k0_off189 i) := ⟨![1 - (i 0).val % 2, 4, 0, 0], (by decide +kernel : ∀ i, k0_off189 i = ![1 - (i 0).val % 2, 4, 0, 0]) i⟩
instance : ClosedOff (k0_off190 i) := ⟨![(i 0).val % 2, 4, 0, 0], (by decide +kernel : ∀ i, k0_off190 i = ![(i 0).val % 2, 4, 0, 0]) i⟩
instance : ClosedOff (k0_off191 i) := ⟨![1 - (i 0).val % 2, 5, 0, 0], (by decide +kernel : ∀ i, k0_off191 i = ![1 - (i 0).val % 2, 5, 0, 0]) i⟩
instance : ClosedOff (k0_off192 i) := ⟨![(i 0).val % 2, 5, 0, 0], (by decide +kernel : ∀ i, k0_off192 i = ![(i 0).val % 2, 5, 0, 0]) i⟩
instance : ClosedOff (k0_off193 i) := ⟨![1 - (i 0).val % 2, 6, 0, 0], (by decide +kernel : ∀ i, k0_off193 i = ![1 - (i 0).val % 2, 6, 0, 0]) i⟩
instance : ClosedOff (k0_off194 i) := ⟨![(i 0).val % 2, 6, 0, 0], (by decide +kernel : ∀ i, k0_off194 i = ![(i 0).val % 2, 6, 0, 0]) i⟩
instance : ClosedOff (k0_off195 i) := ⟨![1 - (i 0).val % 2, 7, 0, 0], (by decide +kernel : ∀ i, k0_off195 i = ![1 - (i 0).val % 2, 7, 0, 0]) i⟩
instance : ClosedOff (k0_off196 i) := ⟨![(i 0).val % 2, 7, 0, 0], (by decide +kernel : ∀ i, k0_off196 i = ![(i 0).val % 2, 7, 0, 0]) i⟩
instance : ClosedOff (k0_off197 i) := ⟨![1 - (i 0).val % 2, 8, 0, 0], (by decide +kernel : ∀ i, k0_off197 i = ![1 - (i 0).val % 2, 8, 0, 0]) i⟩
instance : ClosedOff (k0_off198 i) := ⟨![(i 0).val % 2, 8, 0, 0], (by decide +kernel : ∀ i, k0_off198 i = ![(i 0).val % 2, 8, 0, 0]) i⟩
instance : ClosedOff (k0_off199 i) := ⟨![1 - (i 0).val % 2, 9, 0, 0], (by decide +kernel : ∀ i, k0_off199 i = ![1 - (i 0).val % 2, 9, 0, 0]) i⟩
instance : ClosedOff (k0_off200 i) := ⟨![(i 0).val % 2, 9, 0, 0], (by decide +kernel : ∀ i, k0_off200 i = ![(i 0).val % 2, 9, 0, 0]) i⟩
instance : ClosedOff (k0_off201 i) := ⟨![1 - (i 0).val % 2, 10, 0, 0], (by decide +kernel : ∀ i, k0_off201 i = ![1 - (i 0).val % 2, 10, 0, 0]) i⟩
instance : ClosedOff (k0_off202 i) := ⟨![(i 0).val % 2, 10, 0, 0], (by decide +kernel : ∀ i, k0_off202 i = ![(i 0).val % 2, 10, 0, 0]) i⟩
instance : ClosedOff (k0_off203 i) := ⟨![1 - (i 0).val % 2, 11, 0, 0], (by decide +kernel : ∀ i, k0_off203 i = ![1 - (i 0).val % 2, 11, 0, 0]) i⟩
instance : ClosedOff (k0_off204 i) := ⟨![(i 0).val % 2, 11, 0, 0], (by decide +kernel : ∀ i, k0_off204 i = ![(i 0).val % 2, 11, 0, 0]) i⟩
instance : ClosedOff (k0_off205 i) := ⟨![1 - (i 0).val % 2, 12, 0, 0], (by decide +kernel : ∀ i, k0_off205 i = ![1 - (i 0).val % 2, 12, 0, 0]) i⟩
instance : ClosedOff (k0_off206 i) := ⟨![(i 0).val % 2, 12, 0, 0], (by decide +kernel : ∀ i, k0_off206 i = ![(i 0).val % 2, 12, 0, 0]) i⟩
instance : ClosedOff (k0_off207 i) := ⟨![1 - (i 0).val % 2, 13, 0, 0], (by decide +kernel : ∀ i, k0_off207 i = ![1 - (i 0).val % 2, 13, 0, 0]) i⟩
instance : ClosedOff (k0_off208 i) := ⟨![(i 0).val % 2, 13, 0, 0], (by decide +kernel : ∀ i, k0_off208 i = ![(i 0).val % 2, 13, 0, 0]) i⟩
instance : ClosedOff (k0_off209 i) := ⟨![1 - (i 0).val % 2, 14, 0, 0], (by decide +kernel : ∀ i, k0_off209 i = ![1 - (i 0).val % 2, 14, 0, 0]) i⟩
instance : ClosedOff (k0_off210 i) := ⟨![(i 0).val % 2, 14, 0, 0], (by decide +kernel : ∀ i, k0_off210 i = ![(i 0).val % 2, 14, 0, 0]) i⟩
instance : ClosedOff (k0_off211 i) := ⟨![1 - (i 0).val % 2, 15, 0, 0], (by decide +kernel : ∀ i, k0_off211 i = ![1 - (i 0).val % 2, 15, 0, 0]) i⟩
instance : ClosedOff (k0_off212 i) := ⟨![(i 0).val % 2, 15, 0, 0], (by decide +kernel : ∀ i, k0_off212 i = ![(i 0).val % 2, 15, 0, 0]) i⟩
instance : ClosedOff (k0_off213 i) := ⟨![1 - (i 0).val % 2, 16, 0, 0], (by decide +kernel : ∀ i, k0_off213 i = ![1 - (i 0).val % 2, 16, 0, 0]) i⟩
instance : ClosedOff (k0_off214 i) := ⟨![(i 0).val % 2, 16, 0, 0], (by decide +kernel : ∀ i, k0_off214 i = ![(i 0).val % 2, 16, 0, 0]) i⟩
instance : ClosedOff (k0_off215 i) := ⟨![1 - (i 0).val % 2, 17, 0, 0], (by decide +kernel : ∀ i, k0_off215 i = ![1 - (i 0).val % 2, 17, 0, 0]) i⟩
instance : ClosedOff (k0_off216 i) := ⟨![(i 0).val % 2, 17, 0, 0], (by decide +kernel : ∀ i, k0_off216 i = ![(i 0).val % 2, 17, 0, 0]) i⟩
instance : ClosedOff (k0_off217 i) := ⟨![1 - (i 0).val % 2, 18, 0, 0], (by decide +kernel : ∀ i, k0_off217 i = ![1 - (i 0).val % 2, 18, 0, 0]) i⟩
instance : ClosedOff (k0_off218 i) := ⟨![(i 0).val % 2, 18, 0, 0], (by decide +kernel : ∀ i, k0_off218 i = ![(i 0).val % 2, 18, 0, 0]) i⟩
instance : ClosedOff (k0_off219 i) := ⟨![1 - (i 0).val % 2, 19, 0, 0], (by decide +kernel : ∀ i, k0_off219 i = ![1 - (i 0).val % 2, 19, 0, 0]) i⟩
instance : ClosedOff (k0_off220 i) := ⟨![(i 0).val % 2, 19, 0, 0], (by decide +kernel : ∀ i, k0_off220 i = ![(i 0).val % 2, 19, 0, 0]) i⟩

end Cert.KernelIdeal.Gen
-- ==== Proof.IdealPoints.lean ====
/- What the runs of the idealized kernel's body share: the conditions of its two branches over the grid points, the staging and
   scratch memrefs. -/
module

public import proofs.«01_k».proof.Proof.IdealOffsets

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 21 = 0 :=
  (fun t => by
    have ht : t.val < 21 := Nat.lt_of_lt_of_eq t.isLt N_0
    have e0 : (grid0.coords t 0).val = t.val / 1 % 21 := Pipeline.Grid.coords_val t 0 (by decide) rfl
    simp only [cond0_0, e0]
    word_cmp
   : ∀ t : Fin grid0.N, cond0_0 (grid0.coords t) ↔ t.val % 21 = 0)

/-- The condition of the body's `scf.if` 1 (`k0_h2`), from the grid coordinates (the skeleton's scalar
    chain substituted). -/
abbrev cond0_1 (i : grid0.Coords) : Prop := k0_cond2 i = 1#1
/-- It holds at the points from point 1 on — decided over the grid. -/
theorem hcond0_1 : ∀ t : Fin cfg0.N, cond0_1 (grid0.coords t) ↔ 1 ≤ t.val :=
  (by decide +kernel : ∀ t : Fin grid0.N, cond0_1 (grid0.coords t) ↔ 1 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The staging and scratch memrefs -/

/-- Each window's current staging memref at point `t`, spelled as the pipeline passes it (`bodyAt0`), and its wholeness. -/
abbrev ms0_0 (t : Fin cfg0.N) : Memref sig .tc .vmem S1x792x128 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x160 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x160 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x160 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x20x144x160 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x20x144x160 .bf16 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S2x20x288x128 .bf16 := Memref.whole cc0_scratch0
abbrev scM0_1 : Memref sig .tc .vmem S256x160 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Gen

end
-- ==== Proof.IdealFill.lean ====
/- What one step stores into the scratch of patches: the pieces, one per output column and group of eight word rows, and the
   scratch they leave. Byte `e` of the word in word row `k` and lane `l` of a block is the pixel of image row `4 k + e`. -/
module

public import proofs.«01_k».proof.Proof.IdealPoints
public import Idealize.ShloMosaic.Lib.BitcastPair
public import Idealize.ShloMosaic.Lib.KernelVsHost
public import Idealize.ShloMosaic.Lib.Pointwise

@[expose] public section

set_option maxRecDepth 16384

noncomputable section

namespace Cert.KernelIdeal.Gen

open Idealize.ShloMosaic Idealize.ShloMosaic.Tactic Idealize.ShloMosaic.Pointwise

variable {F : FTy → Type} [FloatOps F]

/-- The slot of the scratch that the step at grid point `i` fills, as the kernel computes it. -/
def slotIdx (i : grid0.Coords) : ℕ := k0_off1 i 0
/-- The other slot, as the kernel computes it. -/
def otherIdx (i : grid0.Coords) : ℕ := k0_off181 i 0

theorem slotIdx_eq (i : grid0.Coords) : slotIdx i = (i 0).val % 2 := by
  unfold slotIdx; rw [ClosedOff.eq (off := k0_off1 i)]; rfl
theorem otherIdx_eq (i : grid0.Coords) : otherIdx i = 1 - (i 0).val % 2 := by
  unfold otherIdx; rw [ClosedOff.eq (off := k0_off181 i)]; rfl

/-- Byte `e` of a word, byte 0 the lowest. -/
def byteOf (w : BitVec 32) (e : ℕ) : BitVec 8 := w.extractLsb' (8 * e) 8

/-- The strided load of eight word rows, eleven apart, from row `m`. -/
def rowsAt (m : Fin 715) : LoadRect S1x792x128 where
  off := ![0, m.val, 0]
  size := S1x8x128.size
  stride := ![1, 11, 1]
  inb := by
    intro a
    have := m.isLt
    match a with
    | ⟨0, _⟩ => exact Or.inr (show 0 + 1 * (1 - 1) < 1 by omega)
    | ⟨1, _⟩ => exact Or.inr (show m.val + 11 * (8 - 1) < 792 by omega)
    | ⟨2, _⟩ => exact Or.inr (show 0 + 1 * (128 - 1) < 128 by omega)

/-- The stored payload of an even output column: the bytes of eight word rows. -/
def evenPay (v : Vec F S1x8x128 .i32) : FVec F S1x1x32x128 .bf16 :=
  shapeCast S1x1x32x128 (uitofp .bf16 (bitcast S32x128 8 (shapeCast S8x128 v shapeCasts_S1x8x128_S8x128 : IVec S8x128 32)
    bitcasts_S8x128_w32_S32x128_w8)) shapeCasts_S32x128_S1x1x32x128

/-- The stored payload of an odd output column: the bytes of the words that begin half a row in. -/
def oddPay (a b : Vec F S1x8x128 .i32) : FVec F S1x1x32x128 .bf16 :=
  shapeCast S1x1x32x128 (uitofp .bf16 (bitcast S32x128 8
    (select k0_pay77
      (dynamicRotate 1 64#32 none (shapeCast S8x128 a shapeCasts_S1x8x128_S8x128 : IVec S8x128 32) rotates_S8x128_d1)
      (dynamicRotate 1 64#32 none (shapeCast S8x128 b shapeCasts_S1x8x128_S8x128 : IVec S8x128 32) rotates_S8x128_d1))
    bitcasts_S8x128_w32_S32x128_w8)) shapeCasts_S32x128_S1x1x32x128

/-- A word read as four rows of bytes. -/
theorem bitcast_bytes (x : IVec S8x128 32) (r : Fin 32) (l : Fin 128) :
    bitcast S32x128 8 x bitcasts_S8x128_w32_S32x128_w8 (ix2 r l) = byteOf (x (ix2 (⟨r.val / 4, by omega⟩ : Fin 8) l)) (r.val % 4) := by
  apply BitVec.eq_of_getLsbD_eq
  intro q hq
  rw [bitcast_getLsbD x bitcasts_S8x128_w32_S32x128_w8 _ q hq (by decide)]
  have hrow : S32x128.row (ix2 r l) = r.val := rfl
  rw [byteOf, BitVec.getLsbD_extractLsb']
  have e1 : (S32x128.row (ix2 r l) * 8 + q) % 32 = 8 * (r.val % 4) + q := by rw [hrow]; omega
  have e2 : bitcasts_S8x128_w32_S32x128_w8.srcIdx (ix2 r l) ((S32x128.row (ix2 r l) * 8 + q) / 32) (fun a ha =>
          (Nat.div_lt_iff_lt_mul (by decide)).2 (bitcasts_S8x128_w32_S32x128_w8.pos_lt (ix2 r l) q hq a ha))
      = ix2 (⟨r.val / 4, by omega⟩ : Fin 8) l := by
    funext a
    match a with
    | ⟨0, _⟩ => exact Fin.ext ((Shape.Bitcasts.srcIdx_row _ _ _ _ ⟨0, by decide⟩ rfl).trans (by rw [hrow]; show _ = r.val / 4; omega))
    | ⟨1, _⟩ => exact Fin.ext (Shape.Bitcasts.srcIdx_other _ _ _ _ ⟨1, by decide⟩ (by decide))
  rw [e1, e2]
  simp [hq]

theorem rows_cast {α : Type} (v : S1x8x128.Idx → α) (k : Fin 8) (l : Fin 128) :
    shapeCast S8x128 v shapeCasts_S1x8x128_S8x128 (ix2 k l) = v (ix3 (0 : Fin 1) k l) :=
  shapeCast_apply _ _ _ _ (by
    rw [Shape.rowMajor_val_two, Shape.rowMajor_val_three]
    show (0 * 8 + k.val) * 128 + l.val = k.val * 128 + l.val
    omega)

theorem tile_cast {α : Type} (v : S32x128.Idx → α) (r : Fin 32) (l : Fin 128) :
    shapeCast S1x1x32x128 v shapeCasts_S32x128_S1x1x32x128 (ix4 (0 : Fin 1) (0 : Fin 1) r l) = v (ix2 r l) :=
  shapeCast_apply _ _ _ _ (by
    rw [Shape.rowMajor_val_two, Shape.rowMajor_val_four]
    show r.val * 128 + l.val = ((0 * 1 + 0) * 32 + r.val) * 128 + l.val
    omega)

theorem evenPay_apply (v : Vec F S1x8x128 .i32) (r : Fin 32) (l : Fin 128) :
    evenPay v (ix4 (0 : Fin 1) (0 : Fin 1) r l)
      = FloatOps.uitofp .bf16 (byteOf (v (ix3 (0 : Fin 1) (⟨r.val / 4, by omega⟩ : Fin 8) l)) (r.val % 4)) := by
  unfold evenPay
  rw [tile_cast]
  show FloatOps.uitofp .bf16 _ = _
  rw [bitcast_bytes, rows_cast]

theorem mask_apply (k : Fin 8) (l : Fin 128) : k0_pay77 (ix2 k l) = if l.val < 64 then 1#1 else 0#1 := by
  revert l; revert k; decide +kernel

theorem oddPay_apply (a b : Vec F S1x8x128 .i32) (r : Fin 32) (l : Fin 128) :
    oddPay a b (ix4 (0 : Fin 1) (0 : Fin 1) r l)
      = FloatOps.uitofp .bf16 (byteOf (if h : l.val < 64 then a (ix3 (0 : Fin 1) (⟨r.val / 4, by omega⟩ : Fin 8) (⟨l.val + 64, by omega⟩ : Fin 128))
          else b (ix3 (0 : Fin 1) (⟨r.val / 4, by omega⟩ : Fin 8) (⟨l.val - 64, by omega⟩ : Fin 128))) (r.val % 4)) := by
  unfold oddPay
  rw [tile_cast]
  show FloatOps.uitofp .bf16 _ = _
  rw [bitcast_bytes]
  congr 2
  show Scalar.select (k0_pay77 _) _ _ = _
  rw [mask_apply]
  by_cases h : l.val < 64
  · rw [if_pos h, dif_pos h, Scalar.select, if_pos (by decide)]
    rw [dynamicRotate_apply (1 : Fin 2) 64#32 _ _ _ (ix2 (⟨r.val / 4, by omega⟩ : Fin 8) (⟨l.val + 64, by omega⟩ : Fin 128)) (by
        intro c
        match c with
        | ⟨0, _⟩ => rfl
        | ⟨1, _⟩ => show l.val + 64 = (l.val + 128 - 64 % 128) % 128; omega)]
    rw [rows_cast]
  · rw [if_neg h, dif_neg h, Scalar.select, if_neg (by decide)]
    rw [dynamicRotate_apply (1 : Fin 2) 64#32 _ _ _ (ix2 (⟨r.val / 4, by omega⟩ : Fin 8) (⟨l.val - 64, by omega⟩ : Fin 128)) (by
        intro c
        match c with
        | ⟨0, _⟩ => rfl
        | ⟨1, _⟩ => show l.val - 64 = (l.val + 128 - 64 % 128) % 128; omega)]
    rw [rows_cast]

/-! ## The pieces of one step -/

/-- The payload of output column `ow`, group `g`, off the loads. -/
def piecePay (ld : Fin 715 → Vec F S1x8x128 .i32) (ow : Fin 20) (g : Fin 9) : FVec F S1x1x32x128 .bf16 :=
  if ow.val % 2 = 0 then evenPay (ld ⟨88 * g.val + ow.val / 2, by omega⟩)
  else oddPay (ld ⟨88 * g.val + ow.val / 2, by omega⟩) (ld ⟨88 * g.val + ow.val / 2 + 1, by omega⟩)

/-- One stored piece. -/
def piece (i : grid0.Coords) (ld : Fin 715 → Vec F S1x8x128 .i32) (g : Fin 9) (ow : Fin 20) : View.Piece (Elt F) S2x20x288x128 .bf16 :=
  ⟨Rect.unit ![slotIdx i, ow.val, 32 * g.val, 0] S1x1x32x128.size (by
      intro a
      have h := slotIdx_eq i
      match a with
      | ⟨0, _⟩ => show slotIdx i + 1 ≤ 2; omega
      | ⟨1, _⟩ => show ow.val + 1 ≤ 20; omega
      | ⟨2, _⟩ => show 32 * g.val + 32 ≤ 288; omega
      | ⟨3, _⟩ => show 0 + 128 ≤ 128; omega), piecePay ld ow g⟩

/-- The order of the columns, newest first. -/
def colOrder : List (Fin 20) := [19, 17, 18, 15, 16, 13, 14, 11, 12, 9, 10, 7, 8, 5, 6, 3, 4, 1, 2, 0]
/-- The order of the groups, newest first. -/
def groupOrder : List (Fin 9) := [8, 7, 6, 5, 4, 3, 2, 1, 0]

/-- All the pieces of one step, newest first. -/
def fillPieces (i : grid0.Coords) (ld : Fin 715 → Vec F S1x8x128 .i32) : List (View.Piece (Elt F) S2x20x288x128 .bf16) :=
  groupOrder.flatMap fun g => colOrder.map (piece i ld g)

/-- The patch element of output column `ow`, image row `r`, lane `l`, of a block of words. -/
def patchAt (x0 : Vec F S1x792x128 .i32) (ow : Fin 20) (r : Fin 288) (l : Fin 128) : F .bf16 :=
  FloatOps.uitofp .bf16 (byteOf (x0 (ix3 (0 : Fin 1) (⟨11 * (r.val / 4) + (64 * ow.val + l.val) / 128, by omega⟩ : Fin 792)
    (⟨(64 * ow.val + l.val) % 128, by omega⟩ : Fin 128))) (r.val % 4))

/-- The loads of a block. -/
def loads (x0 : Vec F S1x792x128 .i32) (m : Fin 715) : Vec F S1x8x128 .i32 := fun j => x0 ((rowsAt m).idx j)

theorem loads_apply (x0 : Vec F S1x792x128 .i32) (m : Fin 715) (k : Fin 8) (l : Fin 128) :
    loads x0 m (ix3 (0 : Fin 1) k l) = x0 (ix3 (0 : Fin 1) (⟨m.val + 11 * k.val, by omega⟩ : Fin 792) l) := by
  unfold loads
  congr 1
  funext a
  match a with
  | ⟨0, _⟩ => rfl
  | ⟨1, _⟩ => rfl
  | ⟨2, _⟩ => exact Fin.ext (show 0 + 1 * l.val = l.val by omega)

theorem piecePay_apply (x0 : Vec F S1x792x128 .i32) (ow : Fin 20) (g : Fin 9) (r : Fin 32) (l : Fin 128) :
    piecePay (loads x0) ow g (ix4 (0 : Fin 1) (0 : Fin 1) r l) = patchAt x0 ow (⟨32 * g.val + r.val, by omega⟩ : Fin 288) l := by
  unfold piecePay patchAt
  have hb : (32 * g.val + r.val) % 4 = r.val % 4 := by omega
  by_cases h : ow.val % 2 = 0
  · rw [if_pos h, evenPay_apply, loads_apply]
    simp only [hb]
    congr 4
    · exact Fin.ext (by show 88 * g.val + ow.val / 2 + 11 * (r.val / 4) = 11 * ((32 * g.val + r.val) / 4) + (64 * ow.val + l.val) / 128; omega)
    · exact Fin.ext (by show l.val = (64 * ow.val + l.val) % 128; omega)
  · rw [if_neg h, oddPay_apply]
    simp only [hb]
    by_cases h2 : l.val < 64
    · rw [dif_pos h2, loads_apply]
      congr 4
      · exact Fin.ext (by show 88 * g.val + ow.val / 2 + 11 * (r.val / 4) = 11 * ((32 * g.val + r.val) / 4) + (64 * ow.val + l.val) / 128; omega)
      · exact Fin.ext (by show l.val + 64 = (64 * ow.val + l.val) % 128; omega)
    · rw [dif_neg h2, loads_apply]
      congr 4
      · exact Fin.ext (by show 88 * g.val + ow.val / 2 + 1 + 11 * (r.val / 4) = 11 * ((32 * g.val + r.val) / 4) + (64 * ow.val + l.val) / 128; omega)
      · exact Fin.ext (by show l.val - 64 = (64 * ow.val + l.val) % 128; omega)

/-- The scratch after the pieces of one step over the contents `old`. -/
def filled (s : ℕ) (x0 : Vec F S1x792x128 .i32) (old : Vec F S2x20x288x128 .bf16) : Vec F S2x20x288x128 .bf16 :=
  fun y => if (y 0).val = s then patchAt x0 (y 1) (y 2) (y 3) else old y

/-- Where a piece puts its element. -/
theorem piece_emb (i : grid0.Coords) (ld : Fin 715 → Vec F S1x8x128 .i32) (g : Fin 9) (ow : Fin 20) (r : Fin 32) (l : Fin 128) :
    (piece i ld g ow).1.emb (ix4 (0 : Fin 1) (0 : Fin 1) r l)
      = ix4 (⟨slotIdx i, by have := slotIdx_eq i; omega⟩ : Fin 2) ow (⟨32 * g.val + r.val, by omega⟩ : Fin 288) l :=
  Rect.emb_eq_of_coords _ _ _ fun a => by
    match a with
    | ⟨0, _⟩ => show slotIdx i = slotIdx i + 1 * 0; omega
    | ⟨1, _⟩ => show ow.val = ow.val + 1 * 0; omega
    | ⟨2, _⟩ => show 32 * g.val + r.val = 32 * g.val + 1 * r.val; omega
    | ⟨3, _⟩ => show l.val = 0 + 1 * l.val; omega

theorem mem_fillPieces (i : grid0.Coords) (ld : Fin 715 → Vec F S1x8x128 .i32) (g : Fin 9) (ow : Fin 20) : piece i ld g ow ∈ fillPieces i ld :=
  List.mem_flatMap.mpr ⟨g, by revert g; decide, List.mem_map.mpr ⟨ow, by revert ow; decide, rfl⟩⟩

theorem exists_of_mem_fillPieces {i : grid0.Coords} {ld : Fin 715 → Vec F S1x8x128 .i32} {p : View.Piece (Elt F) S2x20x288x128 .bf16}
    (hp : p ∈ fillPieces i ld) : ∃ g ow, p = piece i ld g ow := by
  obtain ⟨g, -, hp⟩ := List.mem_flatMap.mp hp
  obtain ⟨ow, -, rfl⟩ := List.mem_map.mp hp
  exact ⟨g, ow, rfl⟩

/-- Reading the scratch after the pieces of one step. -/
theorem read_fillPieces {κ : Kind} {sp : Space} (v : View sig κ sp S2x20x288x128 .bf16) (f : v.ty.Contents (Elt F)) (i : grid0.Coords)
    (x0 : Vec F S1x792x128 .i32) :
    v.read (Elt F) (v.writes (Elt F) f (fillPieces i (loads x0))) = filled (slotIdx i) x0 (v.read (Elt F) f) := by
  funext y
  obtain ⟨s, ow, r, l, rfl⟩ : ∃ (s : Fin 2) (ow : Fin 20) (r : Fin 288) (l : Fin 128), y = ix4 s ow r l := ⟨_, _, _, _, eq_ix4 y⟩
  show _ = if s.val = slotIdx i then patchAt x0 ow r l else _
  by_cases h : s.val = slotIdx i
  · rw [if_pos h]
    have e := piece_emb i (loads x0) ⟨r.val / 32, by omega⟩ ow ⟨r.val % 32, by omega⟩ l
    have hy : ix4 s ow r l = ix4 (⟨slotIdx i, by have := slotIdx_eq i; omega⟩ : Fin 2) ow
        (⟨32 * (r.val / 32) + r.val % 32, by omega⟩ : Fin 288) l :=
      (ix4_inj ..).mpr ⟨Fin.ext h, rfl, Fin.ext (by show r.val = 32 * (r.val / 32) + r.val % 32; omega), rfl⟩
    refine View.read_writes_apply_of_pieces v f (fun y => patchAt x0 (y 1) (y 2) (y 3)) _ ?_ (ix4 s ow r l)
      ⟨_, mem_fillPieces i (loads x0) ⟨r.val / 32, by omega⟩ ow, ?_⟩
    · intro p hp x
      obtain ⟨g, ow', rfl⟩ := exists_of_mem_fillPieces hp
      obtain ⟨a, b, r', l', rfl⟩ : ∃ (a b : Fin 1) (r' : Fin 32) (l' : Fin 128), x = ix4 a b r' l' := ⟨_, _, _, _, eq_ix4 (n0 := 1) (n1 := 1) (n2 := 32) (n3 := 128) x⟩
      obtain rfl : a = 0 := Subsingleton.elim _ _
      obtain rfl : b = 0 := Subsingleton.elim _ _
      rw [piece_emb]
      exact piecePay_apply x0 ow' g r' l'
    · rw [hy, ← e, ← Rect.map_emb_univ]
      exact Finset.mem_map_of_mem _ (Finset.mem_univ _)
  · rw [if_neg h]
    refine View.read_writes_apply_of_forall_not_mem v f _ _ ?_
    intro p hp
    obtain ⟨g, ow', rfl⟩ := exists_of_mem_fillPieces hp
    exact Rect.not_mem_set_of_axis _ _ 0 (slotIdx i) 1 rfl rfl rfl (by show s.val < _ ∨ _ ≤ s.val; omega)

end Cert.KernelIdeal.Gen

end
-- ==== Proof.IdealOut.lean ====
/- What one step stores into its two output blocks: for each output column, the two halves of the rows of one product of patches by
   weights, scaled, shifted and cut off at zero. -/
module

public import proofs.«01_k».proof.Proof.IdealFill
public import Idealize.ShloMosaic.Lib.Pipeline.ValueKit

@[expose] public section

set_option maxRecDepth 16384

noncomputable section

namespace Cert.KernelIdeal.Gen

open Idealize.ShloMosaic Idealize.ShloMosaic.Tactic Idealize.ShloMosaic.Pointwise

variable {F : FTy → Type} [FloatOps F]

/-- One stored column of an output block. -/
def outPiece (P : Fin 20 → FVec F S1x1x144x160 .bf16) (ow : Fin 20) : View.Piece (Elt F) S1x20x144x160 .bf16 :=
  ⟨Rect.unit ![0, ow.val, 0, 0] S1x1x144x160.size (by
      intro a
      match a with
      | ⟨0, _⟩ => show 0 + 1 ≤ 1; omega
      | ⟨1, _⟩ => show ow.val + 1 ≤ 20; omega
      | ⟨2, _⟩ => show 0 + 144 ≤ 144; omega
      | ⟨3, _⟩ => show 0 + 160 ≤ 160; omega), P ow⟩

/-- The columns, newest first. -/
def outOrder : List (Fin 20) := [19, 18, 17, 16, 15, 14, 13, 12, 11, 10, 9, 8, 7, 6, 5, 4, 3, 2, 1, 0]

/-- The pieces of one output block. -/
def outPieces (P : Fin 20 → FVec F S1x1x144x160 .bf16) : List (View.Piece (Elt F) S1x20x144x160 .bf16) := outOrder.map (outPiece P)

theorem outPiece_emb (P : Fin 20 → FVec F S1x1x144x160 .bf16) (ow : Fin 20) (r : Fin 144) (d : Fin 160) :
    (outPiece P ow).1.emb (ix4 (0 : Fin 1) (0 : Fin 1) r d) = ix4 (0 : Fin 1) ow r d :=
  Rect.emb_eq_of_coords _ _ _ fun a => by
    match a with
    | ⟨0, _⟩ => show 0 = 0 + 1 * 0; omega
    | ⟨1, _⟩ => show ow.val = ow.val + 1 * 0; omega
    | ⟨2, _⟩ => show r.val = 0 + 1 * r.val; omega
    | ⟨3, _⟩ => show d.val = 0 + 1 * d.val; omega

/-- An output block after its pieces. -/
theorem read_outPieces {κ : Kind} {sp : Space} (v : View sig κ sp S1x20x144x160 .bf16) (f : v.ty.Contents (Elt F))
    (P : Fin 20 → FVec F S1x1x144x160 .bf16) :
    v.read (Elt F) (v.writes (Elt F) f (outPieces P)) = fun y => P (y 1) (ix4 (0 : Fin 1) (0 : Fin 1) (y 2) (y 3)) := by
  funext y
  obtain ⟨z, ow, r, d, rfl⟩ : ∃ (z : Fin 1) (ow : Fin 20) (r : Fin 144) (d : Fin 160), y = ix4 z ow r d := ⟨_, _, _, _, eq_ix4 y⟩
  obtain rfl : z = 0 := Subsingleton.elim _ _
  refine View.read_writes_apply_of_pieces v f (fun y => P (y 1) (ix4 (0 : Fin 1) (0 : Fin 1) (y 2) (y 3))) _ ?_ (ix4 (0 : Fin 1) ow r d)
    ⟨outPiece P ow, List.mem_map.mpr ⟨ow, by revert ow; decide, rfl⟩, ?_⟩
  · intro p hp x
    obtain ⟨ow', -, rfl⟩ := List.mem_map.mp hp
    obtain ⟨a, b, r', d', rfl⟩ : ∃ (a b : Fin 1) (r' : Fin 144) (d' : Fin 160), x = ix4 a b r' d' :=
      ⟨_, _, _, _, eq_ix4 (n0 := 1) (n1 := 1) (n2 := 144) (n3 := 160) x⟩
    obtain rfl : a = 0 := Subsingleton.elim _ _
    obtain rfl : b = 0 := Subsingleton.elim _ _
    rw [outPiece_emb]
    rfl
  · rw [← outPiece_emb P ow r d, ← Rect.map_emb_univ]
    exact Finset.mem_map_of_mem _ (Finset.mem_univ _)

/-- The load of one column of a slot. -/
def colRect (s : ℕ) (hs : s < 2) (ow : Fin 20) : Rect S2x20x288x128 :=
  Rect.unit ![s, ow.val, 0, 0] S1x1x288x128.size (by
      intro a
      match a with
      | ⟨0, _⟩ => show s + 1 ≤ 2; omega
      | ⟨1, _⟩ => show ow.val + 1 ≤ 20; omega
      | ⟨2, _⟩ => show 0 + 288 ≤ 288; omega
      | ⟨3, _⟩ => show 0 + 128 ≤ 128; omega)

theorem slotIdx_lt (i : grid0.Coords) : slotIdx i < 2 := by have := slotIdx_eq i; omega
theorem otherIdx_lt (i : grid0.Coords) : otherIdx i < 2 := by have := otherIdx_eq i; omega
theorem other_ne (i : grid0.Coords) : otherIdx i ≠ slotIdx i := by have := otherIdx_eq i; have := slotIdx_eq i; omega

/-- One column of the patches of a block. -/
def patchCol (x0 : Vec F S1x792x128 .i32) (ow : Fin 20) : Vec F S1x1x288x128 .bf16 := fun j => patchAt x0 ow (j 2) (j 3)

theorem colRect_idx (s : ℕ) (hs : s < 2) (ow : Fin 20) (a b : Fin 1) (r : Fin 288) (l : Fin 128) :
    (colRect s hs ow).idx (ix4 a b r l) = ix4 (⟨s, hs⟩ : Fin 2) ow r l := by
  funext k
  match k with
  | ⟨0, _⟩ => exact Fin.ext (show s + 1 * a.val = s by omega)
  | ⟨1, _⟩ => exact Fin.ext (show ow.val + 1 * b.val = ow.val by omega)
  | ⟨2, _⟩ => exact Fin.ext (show 0 + 1 * r.val = r.val by omega)
  | ⟨3, _⟩ => exact Fin.ext (show 0 + 1 * l.val = l.val by omega)

/-- A column of the slot just filled. -/
theorem ld_slot (i : grid0.Coords) (x0 : Vec F S1x792x128 .i32) (old : Vec F S2x20x288x128 .bf16) (ow : Fin 20) :
    View.ld (filled (slotIdx i) x0 old) (colRect (slotIdx i) (slotIdx_lt i) ow) = patchCol x0 ow := by
  funext j
  obtain ⟨a, b, r, l, rfl⟩ : ∃ (a b : Fin 1) (r : Fin 288) (l : Fin 128), j = ix4 a b r l :=
    ⟨_, _, _, _, eq_ix4 (n0 := 1) (n1 := 1) (n2 := 288) (n3 := 128) j⟩
  refine (congrArg (filled (slotIdx i) x0 old) (colRect_idx _ _ ow a b r l)).trans ?_
  exact if_pos rfl

/-- A column of the other slot. -/
theorem ld_other (i : grid0.Coords) (x0 xp : Vec F S1x792x128 .i32) (old : Vec F S2x20x288x128 .bf16)
    (h : ∀ ow r l, old (ix4 (⟨otherIdx i, otherIdx_lt i⟩ : Fin 2) ow r l) = patchAt xp ow r l) (ow : Fin 20) :
    View.ld (filled (slotIdx i) x0 old) (colRect (otherIdx i) (otherIdx_lt i) ow) = patchCol xp ow := by
  funext j
  obtain ⟨a, b, r, l, rfl⟩ : ∃ (a b : Fin 1) (r : Fin 288) (l : Fin 128), j = ix4 a b r l :=
    ⟨_, _, _, _, eq_ix4 (n0 := 1) (n1 := 1) (n2 := 288) (n3 := 128) j⟩
  refine (congrArg (filled (slotIdx i) x0 old) (colRect_idx _ _ ow a b r l)).trans ?_
  exact (if_neg (other_ne i)).trans (h _ _ _)

/-- The block of the first result that a step makes of the patches `xp` of the step before and its own `x0`. -/
def outLo (xp x0 : Vec F S1x792x128 .i32) (wb : Vec F S256x160 .bf16) (sc bi : Vec F S1x160 .f32) : Vec F S1x20x144x160 .bf16 :=
  fun y => k0_pay8 sc bi (patchCol xp (y 1)) (patchCol x0 (y 1)) wb (ix4 (0 : Fin 1) (0 : Fin 1) (y 2) (y 3))
/-- The block of the second result. -/
def outHi (xp x0 : Vec F S1x792x128 .i32) (wb : Vec F S256x160 .bf16) (sc bi : Vec F S1x160 .f32) : Vec F S1x20x144x160 .bf16 :=
  fun y => k0_pay9 sc bi (patchCol xp (y 1)) (patchCol x0 (y 1)) wb (ix4 (0 : Fin 1) (0 : Fin 1) (y 2) (y 3))

end Cert.KernelIdeal.Gen

end
-- ==== Proof.IdealRunB.lean ====
/- The body of the idealized kernel at every grid point but the first: it fills one slot of the scratch with the patches of its block and
   makes one block of each result of them and of the patches that the step before left in the other slot. -/
module

public import proofs.«01_k».proof.Proof.IdealOut

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.Pointwise Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The loads of the block of words, off its buffer. -/
theorem loads_eq (arg1 : Memref sig .tc .vmem S1x792x128 .i32) (harg1 : arg1.IsWhole) (x0 : Vec F S1x792x128 .i32) :
    (fun m => View.readAt (Elt F) arg1.view (rowsAt m) (harg1.unread x0)) = loads x0 := by
  funext m j
  rw [View.readAt_apply, harg1.read_unread]
  rfl

-- (the run's proof term is large: checking it walks past the default budget)
set_option maxHeartbeats 16000000 in
/-- The body at a point where the first branch is not taken and the second is. -/
theorem kernelRun0_B (c : Dev nD) (i : grid0.Coords) (arg1 : Memref sig .tc .vmem S1x792x128 .i32) (harg1 : arg1.IsWhole) (arg2 : Memref sig .tc .vmem S256x160 .fp8e4m3) (harg2 : arg2.IsWhole) (arg3 : Memref sig .tc .vmem S1x160 .f32) (harg3 : arg3.IsWhole) (arg4 : Memref sig .tc .vmem S1x160 .f32) (harg4 : arg4.IsWhole) (arg5 : Memref sig .tc .vmem S1x20x144x160 .bf16) (harg5 : arg5.IsWhole) (arg6 : Memref sig .tc .vmem S1x20x144x160 .bf16) (harg6 : arg6.IsWhole) (arg7 : Memref sig .tc .vmem S2x20x288x128 .bf16) (harg7 : arg7.IsWhole) (arg8 : Memref sig .tc .vmem S256x160 .bf16) (harg8 : arg8.IsWhole) (hc0 : ¬cond0_0 i) (hc1 : cond0_1 i)
    (x0 : Vec F S1x792x128 .i32) (x1 : Vec F S256x160 .fp8e4m3) (x2 : Vec F S1x160 .f32) (x3 : Vec F S1x160 .f32) (xs0 : Vec F S2x20x288x128 .bf16) (xs1 : Vec F S256x160 .bf16)
    (xp : Vec F S1x792x128 .i32) (hxp : ∀ ow r l, xs0 (ix4 (⟨otherIdx i, otherIdx_lt i⟩ : Fin 2) ow r l) = patchAt xp ow r l) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (outLo xp x0 xs1 x2 x3) ∗ owns (c : Thread nD τ) arg6 fullShare (outHi xp x0 xs1 x2 x3) ∗ owns (c : Thread nD τ) arg7 fullShare (filled (slotIdx i) x0 xs0) ∗ owns (c : Thread nD τ) arg8 fullShare xs1) -∗ K ⟨⟩))
          ⊢ wp frame (wpE (defs₀ (F := F)) Variants.none c none) E (cc0_conv i arg1 harg1 arg2 harg2 arg3 harg3 arg4 harg4 arg5 harg5 arg6 harg6 arg7 harg7 arg8 harg8) K := by
    intro E K
    simp only [cc0_conv_eq_skeleton]; unfold cc0_conv_skel
    simp only [k0_part59_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg7.eq_unread hfs0; obtain rfl := harg8.eq_unread hfs1
    sl_exec (disch := first | sl_exact hc0)
    sl_step
    have e : kernelRun0_B.sl.HS0_180 c i arg1 harg1 x0 = fillPieces i (fun m => View.readAt (Elt F) arg1.view (rowsAt m) (harg1.unread x0)) := by rfl
    have hP : View.read (Elt F) arg7.view (arg7.view.writes (Elt F) (harg7.unread xs0)
        (kernelRun0_B.sl.HS0_180 c i arg1 harg1 x0)) = filled (slotIdx i) x0 xs0 := by
      rw [e, loads_eq, read_fillPieces, harg7.read_unread]
    have hA : ∀ ow, View.readAt (Elt F) arg7.view (colRect (otherIdx i) (otherIdx_lt i) ow).toLoadRect (arg7.view.writes (Elt F) (harg7.unread xs0)
        (kernelRun0_B.sl.HS0_180 c i arg1 harg1 x0)) = patchCol xp ow := fun ow => by
      rw [View.readAt_eq_ld, hP, ld_other i x0 xp xs0 hxp]
    have hB : ∀ ow, arg7.view.readCov (kernelRun0_B.sl.HS0_180 c i arg1 harg1 x0) (colRect (slotIdx i) (slotIdx_lt i) ow).toLoadRect = patchCol x0 ow := fun ow => by
      unfold View.readCov; rw [View.readAt_eq_ld, e, loads_eq, read_fillPieces, ld_slot]
    have hW : View.readAt (Elt F) arg8.view (Rect.unit ![0, 0] S256x160.size inb_S256x160_S256x160_0_0).toLoadRect (harg8.unread xs1) = xs1 := by
      rw [View.readAt_eq_ld, harg8.read_unread]; exact View.ld_unit_lit' _ _ (by decide)
    have hS : View.readAt (Elt F) arg3.view (Rect.unit ![0, 0] S1x160.size inb_S1x160_S1x160_0_0).toLoadRect (harg3.unread x2) = x2 := by
      rw [View.readAt_eq_ld, harg3.read_unread]; exact View.ld_unit_lit' _ _ (by decide)
    have hI : View.readAt (Elt F) arg4.view (Rect.unit ![0, 0] S1x160.size inb_S1x160_S1x160_0_0).toLoadRect (harg4.unread x3) = x3 := by
      rw [View.readAt_eq_ld, harg4.read_unread]; exact View.ld_unit_lit' _ _ (by decide)
    have hLo := read_outPieces arg5.view f4 (fun ow => k0_pay8
      (View.readAt (Elt F) arg3.view (Rect.unit ![0, 0] S1x160.size inb_S1x160_S1x160_0_0).toLoadRect (harg3.unread x2))
      (View.readAt (Elt F) arg4.view (Rect.unit ![0, 0] S1x160.size inb_S1x160_S1x160_0_0).toLoadRect (harg4.unread x3))
      (View.readAt (Elt F) arg7.view (colRect (otherIdx i) (otherIdx_lt i) ow).toLoadRect (arg7.view.writes (Elt F) (harg7.unread xs0)
        (kernelRun0_B.sl.HS0_180 c i arg1 harg1 x0)))
      (arg7.view.readCov (kernelRun0_B.sl.HS0_180 c i arg1 harg1 x0) (colRect (slotIdx i) (slotIdx_lt i) ow).toLoadRect)
      (View.readAt (Elt F) arg8.view (Rect.unit ![0, 0] S256x160.size inb_S256x160_S256x160_0_0).toLoadRect (harg8.unread xs1)))
    have hHi := read_outPieces arg6.view f5 (fun ow => k0_pay9
      (View.readAt (Elt F) arg3.view (Rect.unit ![0, 0] S1x160.size inb_S1x160_S1x160_0_0).toLoadRect (harg3.unread x2))
      (View.readAt (Elt F) arg4.view (Rect.unit ![0, 0] S1x160.size inb_S1x160_S1x160_0_0).toLoadRect (harg4.unread x3))
      (View.readAt (Elt F) arg7.view (colRect (otherIdx i) (otherIdx_lt i) ow).toLoadRect (arg7.view.writes (Elt F) (harg7.unread xs0)
        (kernelRun0_B.sl.HS0_180 c i arg1 harg1 x0)))
      (arg7.view.readCov (kernelRun0_B.sl.HS0_180 c i arg1 harg1 x0) (colRect (slotIdx i) (slotIdx_lt i) ow).toLoadRect)
      (View.readAt (Elt F) arg8.view (Rect.unit ![0, 0] S256x160.size inb_S256x160_S256x160_0_0).toLoadRect (harg8.unread xs1)))
    have eLo : (fun y : S1x20x144x160.Idx => k0_pay8
      (View.readAt (Elt F) arg3.view (Rect.unit ![0, 0] S1x160.size inb_S1x160_S1x160_0_0).toLoadRect (harg3.unread x2))
      (View.readAt (Elt F) arg4.view (Rect.unit ![0, 0] S1x160.size inb_S1x160_S1x160_0_0).toLoadRect (harg4.unread x3))
      (View.readAt (Elt F) arg7.view (colRect (otherIdx i) (otherIdx_lt i) (y 1)).toLoadRect (arg7.view.writes (Elt F) (harg7.unread xs0)
        (kernelRun0_B.sl.HS0_180 c i arg1 harg1 x0)))
      (arg7.view.readCov (kernelRun0_B.sl.HS0_180 c i arg1 harg1 x0) (colRect (slotIdx i) (slotIdx_lt i) (y 1)).toLoadRect)
      (View.readAt (Elt F) arg8.view (Rect.unit ![0, 0] S256x160.size inb_S256x160_S256x160_0_0).toLoadRect (harg8.unread xs1))
      (ix4 (0 : Fin 1) (0 : Fin 1) (y 2) (y 3))) = outLo xp x0 xs1 x2 x3 := by
      funext y
      exact congrFun (congr (congr (congr (congr (congrArg k0_pay8 hS) hI) (hA (y 1))) (hB (y 1))) hW) _
    have eHi : (fun y : S1x20x144x160.Idx => k0_pay9
      (View.readAt (Elt F) arg3.view (Rect.unit ![0, 0] S1x160.size inb_S1x160_S1x160_0_0).toLoadRect (harg3.unread x2))
      (View.readAt (Elt F) arg4.view (Rect.unit ![0, 0] S1x160.size inb_S1x160_S1x160_0_0).toLoadRect (harg4.unread x3))
      (View.readAt (Elt F) arg7.view (colRect (otherIdx i) (otherIdx_lt i) (y 1)).toLoadRect (arg7.view.writes (Elt F) (harg7.unread xs0)
        (kernelRun0_B.sl.HS0_180 c i arg1 harg1 x0)))
      (arg7.view.readCov (kernelRun0_B.sl.HS0_180 c i arg1 harg1 x0) (colRect (slotIdx i) (slotIdx_lt i) (y 1)).toLoadRect)
      (View.readAt (Elt F) arg8.view (Rect.unit ![0, 0] S256x160.size inb_S256x160_S256x160_0_0).toLoadRect (harg8.unread xs1))
      (ix4 (0 : Fin 1) (0 : Fin 1) (y 2) (y 3))) = outHi xp x0 xs1 x2 x3 := by
      funext y
      exact congrFun (congr (congr (congr (congr (congrArg k0_pay9 hS) hI) (hA (y 1))) (hB (y 1))) hW) _
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro; exact hLo.trans eLo
    isplitl [H5]
    · iexists _; isplitr; swap; · iexact H5
      ipureintro; exact hHi.trans eHi
    isplitl [HS0]
    · iexists _; isplitr; swap; · iexact HS0
      ipureintro; exact hP
    iexists _; isplitr; · ipureintro; exact harg8.read_unread _
    iexact HS1

end Cert.KernelIdeal.Gen

end
-- ==== Proof.IdealRunA.lean ====
/- The body of the idealized kernel at the first grid point: it makes the bf16 weights of the fp8 ones and fills one slot of the scratch
   with the patches of its block. -/
module

public import proofs.«01_k».proof.Proof.IdealRunB

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.Pointwise Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What is stored whole is what is read. -/
theorem read_whole_store {κ : Kind} {sp : Space} (v : View sig κ sp S256x160 .bf16) (f : v.ty.Contents (Elt F)) (X : Vec F S256x160 .bf16) :
    v.read (Elt F) (v.writes (Elt F) f [⟨Rect.unit ![0, 0] S256x160.size inb_S256x160_S256x160_0_0, X⟩]) = X := by
  funext y
  obtain ⟨k, d, rfl⟩ : ∃ (k : Fin 256) (d : Fin 160), y = ix2 k d := ⟨_, _, eq_ix2 y⟩
  have h : ∀ (k : Fin 256) (d : Fin 160), (Rect.unit (s := S256x160) ![0, 0] S256x160.size inb_S256x160_S256x160_0_0).emb (ix2 k d) = ix2 k d := fun k d =>
    Rect.emb_eq_of_coords _ _ _ fun a => by
      match a with
      | ⟨0, _⟩ => show k.val = 0 + 1 * k.val; omega
      | ⟨1, _⟩ => show d.val = 0 + 1 * d.val; omega
  refine View.read_writes_apply_of_pieces v f X _ ?_ (ix2 k d) ⟨_, List.mem_singleton_self _, ?_⟩
  · intro p hp x
    obtain rfl := List.mem_singleton.mp hp
    obtain ⟨k', d', rfl⟩ : ∃ (k' : Fin 256) (d' : Fin 160), x = ix2 k' d' := ⟨_, _, eq_ix2 (n0 := 256) (n1 := 160) x⟩
    exact congrArg X (h k' d').symm
  · rw [← h k d, ← Rect.map_emb_univ]
    exact Finset.mem_map_of_mem _ (Finset.mem_univ _)

-- (the run's proof term is large: checking it walks past the default budget)
set_option maxHeartbeats 16000000 in
/-- The body at a point where the first branch is taken and the second is not. -/
theorem kernelRun0_A (c : Dev nD) (i : grid0.Coords) (arg1 : Memref sig .tc .vmem S1x792x128 .i32) (harg1 : arg1.IsWhole) (arg2 : Memref sig .tc .vmem S256x160 .fp8e4m3) (harg2 : arg2.IsWhole) (arg3 : Memref sig .tc .vmem S1x160 .f32) (harg3 : arg3.IsWhole) (arg4 : Memref sig .tc .vmem S1x160 .f32) (harg4 : arg4.IsWhole) (arg5 : Memref sig .tc .vmem S1x20x144x160 .bf16) (harg5 : arg5.IsWhole) (arg6 : Memref sig .tc .vmem S1x20x144x160 .bf16) (harg6 : arg6.IsWhole) (arg7 : Memref sig .tc .vmem S2x20x288x128 .bf16) (harg7 : arg7.IsWhole) (arg8 : Memref sig .tc .vmem S256x160 .bf16) (harg8 : arg8.IsWhole) (hc0 : cond0_0 i) (hc1 : ¬cond0_1 i)
    (x0 : Vec F S1x792x128 .i32) (x1 : Vec F S256x160 .fp8e4m3) (x2 : Vec F S1x160 .f32) (x3 : Vec F S1x160 .f32) (x4 x5 : Vec F S1x20x144x160 .bf16) (xs0 : Vec F S2x20x288x128 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xs0 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (filled (slotIdx i) x0 xs0) ∗ owns (c : Thread nD τ) arg8 fullShare (k0_pay76 x1)) -∗ K ⟨⟩))
          ⊢ wp frame (wpE (defs₀ (F := F)) Variants.none c none) E (cc0_conv i arg1 harg1 arg2 harg2 arg3 harg3 arg4 harg4 arg5 harg5 arg6 harg6 arg7 harg7 arg8 harg8) K := by
    intro E K
    simp only [cc0_conv_eq_skeleton]; unfold cc0_conv_skel
    simp only [k0_part59_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg7.eq_unread hfs0
    sl_exec (disch := first | sl_exact hc0 | sl_exact hc1)
    sl_step
    have hP : View.read (Elt F) arg7.view (arg7.view.writes (Elt F) (harg7.unread xs0)
        (fillPieces i (fun m => View.readAt (Elt F) arg1.view (rowsAt m) (harg1.unread x0)))) = filled (slotIdx i) x0 xs0 := by
      rw [loads_eq, read_fillPieces, harg7.read_unread]
    have hX : View.readAt (Elt F) arg2.view (Rect.unit ![0, 0] S256x160.size inb_S256x160_S256x160_0_0).toLoadRect (harg2.unread x1) = x1 := by
      rw [View.readAt_eq_ld, harg2.read_unread]; exact View.ld_unit_lit' _ _ (by decide)
    have hW := (read_whole_store arg8.view fs1 (k0_pay76 (View.readAt (Elt F) arg2.view (Rect.unit ![0, 0] S256x160.size inb_S256x160_S256x160_0_0).toLoadRect (harg2.unread x1)))).trans (congrArg k0_pay76 hX)
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact hf4
      iexact H4
    isplitl [H5]
    · iexists _; isplitr; · ipureintro; exact hf5
      iexact H5
    isplitl [HS0]
    · iexists _; isplitr; swap; · iexact HS0
      ipureintro; exact hP
    iexists _; isplitr; swap; · iexact HS1
    ipureintro; exact hW

end Cert.KernelIdeal.Gen

end
-- ==== Proof.IdealFrame.lean ====
/- The idealized kernel at every grid point: what its scratch holds between points, what its output blocks hold, the run of the whole
   program, and what it leaves unchanged. -/
module

public import proofs.«01_k».proof.Proof.IdealRunA
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.Pointwise Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## What the buffers hold -/

/-- The windows of the two outputs are idle at the first point, where nothing is written back, and live at the others. -/
theorem idleAt0_4 : ∀ t : Fin cfg0.N, ¬cond0_1 (grid0.coords t) → cfg0.idle 4 (grid0.coords t) = true := by decide +kernel
theorem idleAt0_5 : ∀ t : Fin cfg0.N, ¬cond0_1 (grid0.coords t) → cfg0.idle 5 (grid0.coords t) = true := by decide +kernel
theorem noFlush0_4 : ∀ t : Fin cfg0.N, ¬cond0_1 (grid0.coords t) → (cfg0.win 4).flush t = false := by decide +kernel
theorem noFlush0_5 : ∀ t : Fin cfg0.N, ¬cond0_1 (grid0.coords t) → (cfg0.win 5).flush t = false := by decide +kernel
theorem liveAt0_4 : ∀ t : Fin cfg0.N, cond0_1 (grid0.coords t) → cfg0.idle 4 (grid0.coords t) = false := by decide +kernel
theorem liveAt0_5 : ∀ t : Fin cfg0.N, cond0_1 (grid0.coords t) → cfg0.idle 5 (grid0.coords t) = false := by decide +kernel

theorem coords_val (t : Fin cfg0.N) : (grid0.coords t 0).val = t.val := by
  have ht : t.val < 21 := Nat.lt_of_lt_of_eq t.isLt N_0
  have e0 : (grid0.coords t 0).val = t.val / 1 % 21 := Pipeline.Grid.coords_val t 0 (by decide) rfl
  omega

/-- The point before. -/
def prev (t : Fin cfg0.N) : Fin cfg0.N := ⟨t.val - 1, Nat.lt_of_le_of_lt (Nat.sub_le _ _) t.isLt⟩
/-- The first point. -/
def first : Fin cfg0.N := ⟨0, by rw [show cfg0.N = 21 from N_0]; decide⟩

/-- The words of point `t`'s block. -/
def words (c : Dev nD) (t : Fin cfg0.N) : Vec F S1x792x128 .i32 := iblk m c 0 t
/-- The bf16 weights, made once. -/
def wts (c : Dev nD) : Vec F S256x160 .bf16 := k0_pay76 (iblk m c 1 first : Vec F S256x160 .fp8e4m3)
/-- The block of the first result made at point `t`. -/
def lo (c : Dev nD) (t : Fin cfg0.N) : Vec F S1x20x144x160 .bf16 :=
  outLo (words m c (prev t)) (words m c t) (wts m c) (iblk m c 2 t) (iblk m c 3 t)
/-- The block of the second result made at point `t`. -/
def hi (c : Dev nD) (t : Fin cfg0.N) : Vec F S1x20x144x160 .bf16 :=
  outHi (words m c (prev t)) (words m c t) (wts m c) (iblk m c 2 t) (iblk m c 3 t)

/-- The scratch holds the patches of block `t` in the slot of `t`'s parity. -/
def Holds (c : Dev nD) (t : Fin cfg0.N) (P : Vec F S2x20x288x128 .bf16) : Prop :=
  ∀ (ow : Fin 20) (r : Fin 288) (l : Fin 128), P (ix4 (⟨t.val % 2, Nat.mod_lt _ (by decide)⟩ : Fin 2) ow r l) = patchAt (words m c t) ow r l

theorem holds_filled (c : Dev nD) (t : Fin cfg0.N) (old : Vec F S2x20x288x128 .bf16) :
    Holds m c t (filled (slotIdx (grid0.coords t)) (words m c t) old) := fun ow r l =>
  if_pos (show t.val % 2 = slotIdx (grid0.coords t) by rw [slotIdx_eq, coords_val])

theorem holds_other (c : Dev nD) (t : Fin cfg0.N) (ht : 1 ≤ t.val) (P : Vec F S2x20x288x128 .bf16) (h : Holds m c (prev t) P) :
    ∀ ow r l, P (ix4 (⟨otherIdx (grid0.coords t), otherIdx_lt _⟩ : Fin 2) ow r l) = patchAt (words m c (prev t)) ow r l := by
  intro ow r l
  have e : (⟨otherIdx (grid0.coords t), otherIdx_lt _⟩ : Fin 2) = ⟨(prev t).val % 2, Nat.mod_lt _ (by decide)⟩ :=
    Fin.ext (by show otherIdx (grid0.coords t) = (t.val - 1) % 2; rw [otherIdx_eq, coords_val]; omega)
  rw [e]; exact h ow r l

/-- Before the first point the scratch buffers hold anything; afterwards the patches of the block before and the weights. -/
def PhiS (c : Dev nD) : (n : ℕ) → n ≤ cfg0.N → sProp 𝕄
  | 0, _ => Pipeline.ΦA spec0 c
  | n + 1, hn => iprop(iprop((∃ P, owns (c : Thread nD τ) scM0_0 fullShare P ∗ ⌜Holds m c ⟨n, hn⟩ P⌝) ∗ owns (c : Thread nD τ) scM0_1 fullShare (wts m c)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (t : Fin cfg0.N) :
    PhiS m c (t.val + 1) t.isLt = iprop(iprop((∃ P, owns (c : Thread nD τ) scM0_0 fullShare P ∗ ⌜Holds m c t P⌝) ∗ owns (c : Thread nD τ) scM0_1 fullShare (wts m c)) ∗ (∃ r, prngReg c r)) := rfl
theorem PhiS_pos (c : Dev nD) (n : ℕ) (h : n ≤ cfg0.N) (hz : n ≠ 0) :
    PhiS m c n h = iprop(iprop((∃ P, owns (c : Thread nD τ) scM0_0 fullShare P ∗ ⌜Holds m c ⟨n - 1, by omega⟩ P⌝) ∗ owns (c : Thread nD τ) scM0_1 fullShare (wts m c)) ∗ (∃ r, prngReg c r)) := by
  cases n with
  | zero => exact absurd rfl hz
  | succ n => rfl

/-! ## The pipeline's proof data -/

/-- The proof data of the pipeline on core `c`: the arrays as the region finds them; after the body at point `t` each input's
    buffer at its block and the outputs' at `lo` and `hi`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => lo m c t
    | ⟨5, _⟩ => hi m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = lo m c t := by dsimp only [dats]
theorem after0_5 (c : Dev nD) (t : Fin cfg0.N) : (dats m 0 c).after 5 t = hi m c t := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 1600000 in
/-- The body at any point: the inputs' buffers hold their blocks, the invariant hands over what the point before left in the scratch,
    and takes this point's patches back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 21 := lt_of_lt_of_eq t.isLt (show cfg0.N = 21 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [PhiS_castSucc m c t]
  by_cases h1 : 1 ≤ t.val
  · have h0 : ¬t.val % 21 = 0 := by omega
    rw [show (dats m 0 c).leavesExact 4 t = owns (c : Thread nD τ) (ms0_4 t) fullShare ((dats m 0 c).after 4 t) from by
      unfold Dat.leavesExact; rw [liveAt0_4 t ((hcond0_1 t).mpr h1)], after0_4]
    rw [show (dats m 0 c).leavesExact 5 t = owns (c : Thread nD τ) (ms0_5 t) fullShare ((dats m 0 c).after 5 t) from by
      unfold Dat.leavesExact; rw [liveAt0_5 t ((hcond0_1 t).mpr h1)], after0_5]
    rw [PhiS_pos m c _ _ (by omega)]
    iintro ⟨⟨⟨⟨%P, HS0, %hP⟩, HS1⟩, Hg⟩, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ _ _ _ _ (fun h => h0 ((hcond0_0 t).mp h)) ((hcond0_1 t).mpr h1) (words m c t) (iblk m c 1 t) (iblk m c 2 t) (iblk m c 3 t) P (wts m c) (words m c (prev t)) (holds_other m c t h1 P hP)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    iintro ⟨H0, H1, H2, H3, H4, H5, HS0, HS1⟩
    isplitl [HS0 HS1 Hg]
    · isplitl [HS0 HS1]
      · isplitl [HS0]
        · iexists _; isplitl [HS0]
          · iexact HS0
          ipureintro; exact holds_filled m c t P
        iexact HS1
      iexact Hg
    isplitl [Ho]; · iexact Ho
    isplitl [H0]; · iexact H0
    isplitl [H1]; · iexact H1
    isplitl [H2]; · iexact H2
    isplitl [H3]; · iexact H3
    isplitl [H4]; · iexact H4
    iexact H5
  · have hz : t.val = 0 := by omega
    obtain rfl : t = first := Fin.ext hz
    rw [Dat.leavesExact_idle (dats m 0 c) 4 first (idleAt0_4 first (fun h => h1 ((hcond0_1 first).mp h))) (noFlush0_4 first (fun h => h1 ((hcond0_1 first).mp h)))]
    rw [Dat.leavesExact_idle (dats m 0 c) 5 first (idleAt0_5 first (fun h => h1 ((hcond0_1 first).mp h))) (noFlush0_5 first (fun h => h1 ((hcond0_1 first).mp h)))]
    rw [PhiS_zero m c _ _ hz, PhiA0_eq]
    iintro ⟨⟨⟨⟨%P, HS0⟩, HS1⟩, Hg⟩, Ho, ⟨%d0, H0⟩, ⟨%d1, H1⟩, ⟨%d2, H2⟩, ⟨%d3, H3⟩, ⟨%d4, H4⟩, ⟨%d5, H5⟩⟩
    iapply ((kernelRun0_A c (grid0.coords first) _ _ _ _ _ _ _ _ _ _ _ _ _ _ _ _ ((hcond0_0 first).mpr (Nat.zero_mod _)) (fun h => h1 ((hcond0_1 first).mp h)) (words m c first) (iblk m c 1 first) (iblk m c 2 first) (iblk m c 3 first) _ _ P) Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, HS0, HS1⟩
    isplitl [HS0 HS1 Hg]
    · isplitl [HS0 HS1]
      · isplitl [HS0]
        · iexists _; isplitl [HS0]
          · iexact HS0
          ipureintro; exact holds_filled m c first P
        iexact HS1
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the named contents of the scratch are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 21 := N_0; omega), PhiA0_eq]
  iintro ⟨⟨⟨%P, HS0, -⟩, HS1⟩, Hg⟩
  isplitl [HS0 HS1]
  · isplitl [HS0]
    · iexists _; iexact HS0
    iexists _; iexact HS1
  iexact Hg

/-! ## The run and the frame -/

-- the launch theorem's implicit arguments are found by unifying its conclusion with this one, which takes unfolding plain
-- definitions in a metavariable's type
set_option backward.isDefEq.respectTransparency.types false in
set_option maxHeartbeats 800000 in
/-- The run of the whole program, with every semaphore counter at zero at the end. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- Every array of the pipeline ends at what the proof data says and every other buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Gen

end
-- ==== Proof.IdealBlocks.lean ====
/- One step's blocks over the extended reals: each entry is a sum of 256 products, scaled, shifted and cut off at zero. -/
module

public import proofs.«01_k».proof.Proof.IdealOut
public import Idealize.ShloMosaic.Lib.Pointwise

@[expose] public section

set_option maxRecDepth 16384

noncomputable section

namespace Cert.KernelIdeal.Gen

open Idealize.ShloMosaic Idealize.ShloMosaic.Pointwise

/-- The number in row `r`, place `k` of the two halves of a window. -/
def tap (xp x0 : Vec Ideal S1x792x128 .i32) (ow : Fin 20) (r : Fin 288) (k : Fin 256) : EReal :=
  if h : k.val < 128 then patchAt (F := Ideal) xp ow r ⟨k.val, h⟩ else patchAt (F := Ideal) x0 ow r ⟨k.val - 128, by omega⟩

/-- An entry of the block before the two results are cut from it. -/
def entry (xp x0 : Vec Ideal S1x792x128 .i32) (wb : Vec Ideal S256x160 .bf16) (sc bi : Vec Ideal S1x160 .f32) (ow : Fin 20)
    (r : Fin 288) (d : Fin 160) : EReal :=
  max ((∑ k : Fin 256, tap xp x0 ow r k * (wb (ix2 k d) : EReal)) * (sc (ix2 0 d) : EReal) + (bi (ix2 0 d) : EReal)) 0

theorem pay7_apply (xp x0 : Vec Ideal S1x792x128 .i32) (wb : Vec Ideal S256x160 .bf16) (sc bi : Vec Ideal S1x160 .f32) (ow : Fin 20)
    (r : Fin 288) (d : Fin 160) :
    k0_pay7 sc bi (patchCol xp ow) (patchCol x0 ow) wb (ix2 r d) = entry xp x0 wb sc bi ow r d := by
  unfold entry
  pointwise [k0_pay7, k0_pay5, k0_pay6, patchCol]
  rw [Fin.sum_univ_two_halves 128 128 rfl]
  have h1 : ∀ x : Fin 128, tap xp x0 ow r ⟨x.val, by omega⟩ = patchAt (F := Ideal) xp ow r x := fun x => dif_pos x.isLt
  have h2 : ∀ x : Fin 128, tap xp x0 ow r ⟨128 + x.val, by omega⟩ = patchAt (F := Ideal) x0 ow r x := fun x => by
    refine (dif_neg (show ¬128 + x.val < 128 by omega)).trans ?_
    exact congrArg (patchAt (F := Ideal) x0 ow r) (Fin.ext (show 128 + x.val - 128 = x.val by omega))
  simp only [h1, h2]

theorem outLo_apply (xp x0 : Vec Ideal S1x792x128 .i32) (wb : Vec Ideal S256x160 .bf16) (sc bi : Vec Ideal S1x160 .f32) (z : Fin 1) (ow : Fin 20)
    (r : Fin 144) (d : Fin 160) :
    outLo xp x0 wb sc bi (ix4 z ow r d) = entry xp x0 wb sc bi ow ⟨r.val, by omega⟩ d := by
  rw [← pay7_apply]
  show k0_pay8 sc bi (patchCol xp ow) (patchCol x0 ow) wb (ix4 (0 : Fin 1) (0 : Fin 1) r d) = _
  pointwise [k0_pay8]

theorem outHi_apply (xp x0 : Vec Ideal S1x792x128 .i32) (wb : Vec Ideal S256x160 .bf16) (sc bi : Vec Ideal S1x160 .f32) (z : Fin 1) (ow : Fin 20)
    (r : Fin 144) (d : Fin 160) :
    outHi xp x0 wb sc bi (ix4 z ow r d) = entry xp x0 wb sc bi ow ⟨144 + r.val, by omega⟩ d := by
  rw [← pay7_apply]
  show k0_pay9 sc bi (patchCol xp ow) (patchCol x0 ow) wb (ix4 (0 : Fin 1) (0 : Fin 1) r d) = _
  pointwise [k0_pay9]

end Cert.KernelIdeal.Gen

end
-- ==== Proof.Spec.lean ====
/- What both programs compute: an 8 × 8 convolution with stride 4 of images of bytes that four to a word lie in an array of words; and
   the sum over the 256 taps of one window taken in the two orders. -/
module

public import Idealize.ShloMosaic.Lib.Pointwise
public import proofs.«01_k».proof.Proof.IdealFill

@[expose] public section

noncomputable section

namespace Cert.Conv

open Idealize.ShloMosaic Idealize.ShloMosaic.Pointwise

/-- The words of all images. -/
abbrev Words := Vec Ideal ⟨1, ![2128896]⟩ .i32
/-- The weights by row, column, plane of the window and feature. -/
abbrev Weights := Vec Ideal ⟨4, ![8, 8, 4, 160]⟩ .fp8e4m3
/-- One number a feature. -/
abbrev Row := Vec Ideal ⟨1, ![160]⟩ .f32

/-- Where the word lies that holds the pixels at row `h`, column `w` of plane `j` in the images `4 * (b / 4) + …` of stack `st`. -/
def wordAt (st b j h w : ℕ) : ℕ := 101376 * (h / 4) + 50688 * st + 1408 * (b / 4) + 64 * (w / 4) + 16 * (w % 4) + 4 * (h % 4) + j

theorem wordAt_lt (st : Fin 2) (b : Fin 144) (j : Fin 4) (h w : Fin 84) : wordAt st b j h w < 2128896 := by
  unfold wordAt; omega

/-- The pixel at row `h`, column `w` of plane `j` of image `b` of stack `st`. -/
def pixel (W : Words) (st : Fin 2) (b : Fin 144) (j : Fin 4) (h w : Fin 84) : EReal :=
  (((Cert.KernelIdeal.Gen.byteOf (W (ix1 ⟨wordAt st b j h w, wordAt_lt st b j h w⟩)) (b.val % 4)).toNat : ℝ) : EReal)

/-- Row (or column) `4 * o + k` of an image. -/
def at4 (o : Fin 20) (k : Fin 8) : Fin 84 := ⟨4 * o.val + k.val, by omega⟩

/-- One feature of one window. -/
def feature (W : Words) (K : Weights) (sc bi : Row) (st : Fin 2) (b : Fin 144) (oh ow : Fin 20) (d : Fin 160) : EReal :=
  max ((∑ kw : Fin 8, ∑ kh : Fin 8, ∑ j : Fin 4, pixel W st b j (at4 oh kh) (at4 ow kw) * (K (ix4 kh kw j d) : EReal)) * (sc (ix1 d) : EReal) + (bi (ix1 d) : EReal)) 0

/-- The result: all features of all windows of a stack. -/
def result (W : Words) (K : Weights) (sc bi : Row) (st : Fin 2) : Vec Ideal ⟨4, ![144, 20, 20, 160]⟩ .bf16 :=
  fun y => feature W K sc bi st (y 0) (y 1) (y 2) (y 3)

/-- A tap's column, row and plane against its number: the number's digits are the row's and the column's high digit, then the column's
    low digit, the row's and the plane. -/
def taps : Fin 8 × Fin 8 × Fin 4 ≃ Fin 256 where
  toFun p := ⟨128 * (p.2.1.val / 4) + 64 * (p.1.val / 4) + 16 * (p.1.val % 4) + 4 * (p.2.1.val % 4) + p.2.2.val, by omega⟩
  invFun k := (⟨4 * (k.val / 64 % 2) + k.val / 16 % 4, by omega⟩, ⟨4 * (k.val / 128) + k.val / 4 % 4, by omega⟩, ⟨k.val % 4, by omega⟩)
  left_inv p := by
    obtain ⟨⟨a, ha⟩, ⟨b, hb⟩, ⟨c, hc⟩⟩ := p
    simp only [Prod.mk.injEq, Fin.mk.injEq]
    omega
  right_inv k := by
    apply Fin.ext
    show 128 * ((4 * (k.val / 128) + k.val / 4 % 4) / 4) + 64 * ((4 * (k.val / 64 % 2) + k.val / 16 % 4) / 4) + 16 * ((4 * (k.val / 64 % 2) + k.val / 16 % 4) % 4) + 4 * ((4 * (k.val / 128) + k.val / 4 % 4) % 4) + k.val % 4 = k.val
    omega

/-- The sum over the numbers of the taps is the sum over their columns, rows and planes. -/
theorem sum_taps (f : Fin 256 → EReal) :
    ∑ k, f k = ∑ kw : Fin 8, ∑ kh : Fin 8, ∑ j : Fin 4, f (taps (kw, kh, j)) := by
  rw [← taps.sum_comp, Fintype.sum_prod_type]
  simp only [Fintype.sum_prod_type]

end Cert.Conv

end
-- ==== Proof.IdealArrays.lean ====
/- The idealized kernel's result arrays: every entry is the feature of one window of the images in the array of words. -/
module

public import proofs.«01_k».proof.Proof.IdealFrame
public import proofs.«01_k».proof.Proof.IdealBlocks
public import proofs.«01_k».proof.Proof.Spec
public import Idealize.ShloMosaic.Lib.Claim
public import Idealize.ShloMosaic.Lib.Pipeline.ValueKit

@[expose] public section

set_option maxRecDepth 16384

noncomputable section

namespace Cert.KernelIdeal.Gen

open Idealize.ShloMosaic Idealize.ShloMosaic.Pointwise Idealize.ShloMosaic.TcCoe Idealize.SL.Sem
open Cert.Conv

variable (m : (ℓ : Loc nD τ sig) → Buf (Elt Ideal) ℓ) (c : Dev nD)

/-- The arguments. -/
abbrev argW : Words := m ((c : Thread nD τ).loc main_arg0)
abbrev argK : Weights := m ((c : Thread nD τ).loc main_arg1)
abbrev argS : Row := m ((c : Thread nD τ).loc main_arg2)
abbrev argB : Row := m ((c : Thread nD τ).loc main_arg3)

theorem index0 : ∀ t : Fin cfg0.N, win0_0.index t = ![t.val, 0, 0] := by decide +kernel
theorem index1 : ∀ t : Fin cfg0.N, win0_1.index t = ![0, 0] := by decide +kernel
theorem index2 : ∀ t : Fin cfg0.N, win0_2.index t = ![0, 0] := by decide +kernel
theorem index3 : ∀ t : Fin cfg0.N, win0_3.index t = ![0, 0] := by decide +kernel
theorem index4 : ∀ t : Fin cfg0.N, win0_4.index t = ![t.val - 1, 0, 0, 0] := by decide +kernel
theorem index5 : ∀ t : Fin cfg0.N, win0_5.index t = ![t.val - 1, 0, 0, 0] := by decide +kernel

theorem V_v0 : V m c main_v0 = shapeCast S21x792x128 (argW m c) shapeCasts_S2128896_S21x792x128 := by
  show StableHlo.after hostOps0 (fun b => m (c, b)) (Proc.devRef .tc main_v0) = _
  unfold hostOps0
  after_results
  rfl

theorem V_v3 : V m c main_v3 = shapeCast S256x160 (transpose S2x2x4x4x4x160 [0, 2, 3, 1, 4, 5] (shapeCast S2x4x2x4x4x160 (argK m c) shapeCasts_S8x8x4x160_S2x4x2x4x4x160) transposes_S2x4x2x4x4x160_S2x2x4x4x4x160_0_2_3_1_4_5) shapeCasts_S2x2x4x4x4x160_S256x160 := by
  show StableHlo.after hostOps0 (fun b => m (c, b)) (Proc.devRef .tc main_v3) = _
  unfold hostOps0
  after_results
  rfl

theorem V_v4 : V m c main_v4 = shapeCast S1x160 (argS m c) shapeCasts_S160_S1x160 := by
  show StableHlo.after hostOps0 (fun b => m (c, b)) (Proc.devRef .tc main_v4) = _
  unfold hostOps0
  after_results
  rfl

theorem V_v5 : V m c main_v5 = shapeCast S1x160 (argB m c) shapeCasts_S160_S1x160 := by
  show StableHlo.after hostOps0 (fun b => m (c, b)) (Proc.devRef .tc main_v5) = _
  unfold hostOps0
  after_results
  rfl

/-- Entry `(row, lane)` of the block of words at point `t`. -/
theorem words_apply (t : Fin cfg0.N) (z : Fin 1) (row : Fin 792) (lane : Fin 128) :
    words m c t (ix3 z row lane) = argW m c (ix1 ⟨101376 * t.val + 128 * row.val + lane.val, by have := t.isLt; have e : cfg0.N = 21 := N_0; omega⟩) := by
  unfold words iblk
  have h : ((cfg0.win 0).blk t).view.emb (ix3 z row lane) = ix3 (⟨t.val, by have := t.isLt; have e : cfg0.N = 21 := N_0; omega⟩ : Fin 21) row lane := by
    blk_ext [index0]
  show V m c main_v0 (((cfg0.win 0).blk t).view.emb (ix3 z row lane)) = _
  rw [h, V_v0]
  pointwise
  congr 2
  exact Fin.ext (by show t.val * 101376 + row.val * 128 + lane.val = 101376 * t.val + 128 * row.val + lane.val; omega)

theorem wts_apply (kw kh : Fin 8) (j : Fin 4) (d : Fin 160) :
    wts m c (ix2 (taps (kw, kh, j)) d) = argK m c (ix4 kh kw j d) := by
  have h (a) : ((cfg0.win 1).blk first).view.emb (ix2 a d) = ix2 a d := by
    blk_ext [index1]
  have e (a) : wts m c (ix2 a d) = V m c main_v3 (ix2 a d) := by
    unfold wts
    pointwise [k0_pay76]
    exact congrArg (V m c main_v3) (h a)
  rw [e, V_v3]
  pointwise
  have hk : (taps (kw, kh, j)).val = 128 * (kh.val / 4) + 64 * (kw.val / 4) + 16 * (kw.val % 4) + 4 * (kh.val % 4) + j.val := rfl
  exact congrArg (argK m c) (congr (congrArg (fun x y z => ix4 x y z d) (Fin.ext (by show _ / 128 * 4 + _ / 4 % 4 = kh.val; omega)))
    (Fin.ext (by show _ / 64 % 2 * 4 + _ / 16 % 4 = kw.val; omega)) |> fun h => congr h (Fin.ext (by show _ % 4 = j.val; omega)))

theorem scale_apply (t : Fin cfg0.N) (z : Fin 1) (d : Fin 160) : (iblk m c 2 t : Vec Ideal S1x160 .f32) (ix2 z d) = argS m c (ix1 d) := by
  have h : ((cfg0.win 2).blk t).view.emb (ix2 z d) = ix2 z d := by
    blk_ext [index2]
  show V m c main_v4 (((cfg0.win 2).blk t).view.emb (ix2 z d)) = _
  rw [h, V_v4]
  pointwise

theorem bias_apply (t : Fin cfg0.N) (z : Fin 1) (d : Fin 160) : (iblk m c 3 t : Vec Ideal S1x160 .f32) (ix2 z d) = argB m c (ix1 d) := by
  have h : ((cfg0.win 3).blk t).view.emb (ix2 z d) = ix2 z d := by
    blk_ext [index3]
  show V m c main_v5 (((cfg0.win 3).blk t).view.emb (ix2 z d)) = _
  rw [h, V_v5]
  pointwise

/-- A patch entry, in the array of words. -/
theorem patch_words (t : Fin cfg0.N) (ow : Fin 20) (r : Fin 288) (l : Fin 128) (n : Fin 2128896)
    (hn : n.val = 101376 * t.val + 1408 * (r.val / 4) + 64 * ow.val + l.val) :
    patchAt (F := Ideal) (words m c t) ow r l = (((byteOf (argW m c (ix1 n)) (r.val % 4)).toNat : ℝ) : EReal) := by
  unfold patchAt
  rw [words_apply]
  refine congrArg (fun n => (((byteOf (argW m c (ix1 n)) (r.val % 4)).toNat : ℝ) : EReal)) (Fin.ext ?_)
  show 101376 * t.val + 128 * (11 * (r.val / 4) + (64 * ow.val + l.val) / 128) + (64 * ow.val + l.val) % 128 = n.val
  omega

/-- The number that a step multiplies with a tap's weight is the pixel under that tap. -/
theorem tap_pixel (t : Fin cfg0.N) (oh ow : Fin 20) (ht : t.val = oh.val + 1) (st : Fin 2) (b : Fin 144) (r : Fin 288)
    (hr : r.val = 144 * st.val + b.val) (kw kh : Fin 8) (j : Fin 4) :
    tap (words m c (prev t)) (words m c t) ow r (taps (kw, kh, j)) = pixel (argW m c) st b j (at4 oh kh) (at4 ow kw) := by
  have hk : (taps (kw, kh, j)).val = 128 * (kh.val / 4) + 64 * (kw.val / 4) + 16 * (kw.val % 4) + 4 * (kh.val % 4) + j.val := rfl
  have hp : (prev t).val = t.val - 1 := rfl
  have hb : r.val % 4 = b.val % 4 := by omega
  have hw : wordAt st b j (at4 oh kh) (at4 ow kw) = 101376 * ((4 * oh.val + kh.val) / 4) + 50688 * st.val + 1408 * (b.val / 4)
      + 64 * ((4 * ow.val + kw.val) / 4) + 16 * ((4 * ow.val + kw.val) % 4) + 4 * ((4 * oh.val + kh.val) % 4) + j.val := rfl
  unfold tap pixel
  rw [← hb]
  split
  · exact patch_words m c _ _ _ _ _ (by show wordAt st b j (at4 oh kh) (at4 ow kw) = _ + (taps (kw, kh, j)).val; rw [hw, hk, hp]; omega)
  · exact patch_words m c _ _ _ _ _ (by show wordAt st b j (at4 oh kh) (at4 ow kw) = _ + ((taps (kw, kh, j)).val - 128); rw [hw, hk]; omega)

/-- An entry of a step's product is a feature. -/
theorem entry_feature (t : Fin cfg0.N) (oh ow : Fin 20) (ht : t.val = oh.val + 1) (st : Fin 2) (b : Fin 144) (r : Fin 288)
    (hr : r.val = 144 * st.val + b.val) (d : Fin 160) :
    entry (words m c (prev t)) (words m c t) (wts m c) (iblk m c 2 t) (iblk m c 3 t) ow r d
      = feature (argW m c) (argK m c) (argS m c) (argB m c) st b oh ow d := by
  unfold entry feature
  rw [sum_taps, scale_apply, bias_apply]
  simp only [tap_pixel m c t oh ow ht st b r hr, wts_apply]

/-- The array of the first result after the run: its entries are the features of the first stack. -/
theorem array_lo : (dats m 0 c).arrAt 4 cfg0.N
    = fun y : S20x20x144x160.Idx => feature (argW m c) (argK m c) (argS m c) (argB m c) 0 (y 2) (y 0) (y 1) (y 3) := by
  refine (dats m 0 c).arrAt_eq_of_covers 4 _ (by decide +kernel) fun t hf y => ?_
  blk_simp
  rw [after0_4]
  have h1 : 1 ≤ t.val := by
    by_contra h
    exact Bool.noConfusion ((noFlush0_4 t (fun h' => h ((hcond0_1 t).mp h'))).symm.trans hf)
  have hN : t.val < 21 := lt_of_lt_of_eq t.isLt (show cfg0.N = 21 from N_0)
  obtain ⟨z, ow, b, d, rfl⟩ : ∃ (z : Fin 1) (ow : Fin 20) (b : Fin 144) (d : Fin 160), y = ix4 z ow b d :=
    ⟨_, _, _, _, eq_ix4 (n0 := 1) (n1 := 20) (n2 := 144) (n3 := 160) y⟩
  have e : (win0_4.blk t).view.emb (ix4 z ow b d) = ix4 (⟨t.val - 1, by omega⟩ : Fin 20) ow b d := by
    blk_ext [index4]
  rw [e]
  show outLo (words m c (prev t)) (words m c t) (wts m c) (iblk m c 2 t) (iblk m c 3 t) (ix4 z ow b d) = feature (argW m c) (argK m c) (argS m c) (argB m c) 0 b (⟨t.val - 1, by omega⟩ : Fin 20) ow d
  rw [outLo_apply]
  exact entry_feature m c t _ ow (by show t.val = t.val - 1 + 1; omega) 0 b _ (by show b.val = 144 * _ + b.val; simp) d

/-- The array of the second result: the features of the second stack. -/
theorem array_hi : (dats m 0 c).arrAt 5 cfg0.N
    = fun y : S20x20x144x160.Idx => feature (argW m c) (argK m c) (argS m c) (argB m c) 1 (y 2) (y 0) (y 1) (y 3) := by
  refine (dats m 0 c).arrAt_eq_of_covers 5 _ (by decide +kernel) fun t hf y => ?_
  blk_simp
  rw [after0_5]
  have h1 : 1 ≤ t.val := by
    by_contra h
    exact Bool.noConfusion ((noFlush0_5 t (fun h' => h ((hcond0_1 t).mp h'))).symm.trans hf)
  have hN : t.val < 21 := lt_of_lt_of_eq t.isLt (show cfg0.N = 21 from N_0)
  obtain ⟨z, ow, b, d, rfl⟩ : ∃ (z : Fin 1) (ow : Fin 20) (b : Fin 144) (d : Fin 160), y = ix4 z ow b d :=
    ⟨_, _, _, _, eq_ix4 (n0 := 1) (n1 := 20) (n2 := 144) (n3 := 160) y⟩
  have e : (win0_5.blk t).view.emb (ix4 z ow b d) = ix4 (⟨t.val - 1, by omega⟩ : Fin 20) ow b d := by
    blk_ext [index5]
  rw [e]
  show outHi (words m c (prev t)) (words m c t) (wts m c) (iblk m c 2 t) (iblk m c 3 t) (ix4 z ow b d) = feature (argW m c) (argK m c) (argS m c) (argB m c) 1 b (⟨t.val - 1, by omega⟩ : Fin 20) ow d
  rw [outHi_apply]
  exact entry_feature m c t _ ow (by show t.val = t.val - 1 + 1; omega) 1 b _ (by show 144 + b.val = 144 * _ + b.val; simp) d

theorem arrays_ne : Function.Injective (Pipeline.arrRef spec0) := by decide

/-- The features with the images last, transposed. -/
theorem transposed (W : Words) (K : Weights) (sc bi : Row) (st : Fin 2) :
    (transpose S144x20x20x160 [2, 0, 1, 3] (fun y : S20x20x144x160.Idx => feature W K sc bi st (y 2) (y 0) (y 1) (y 3))
      transposes_S20x20x144x160_S144x20x20x160_2_0_1_3 : Vec Ideal S144x20x20x160 .bf16) = result W K sc bi st := by
  funext y
  obtain ⟨b, oh, ow, d, rfl⟩ : ∃ (b : Fin 144) (oh ow : Fin 20) (d : Fin 160), y = ix4 b oh ow d := ⟨_, _, _, _, eq_ix4 y⟩
  pointwise [result]

/-- The run: the two results, transposed to have the images first, are the features of the two stacks. -/
theorem values (ρ : Dev nD → PrngReg) : θ_run defs (onTc (τ := τ) (main (F := Ideal))) ⟨m, fun _ => 0, ρ⟩ (fun r => ∀ c : Dev nD,
      r.2.mem ((c.tc : Thread nD τ).loc main_v7) = result (argW m c) (argK m c) (argS m c) (argB m c) 0
      ∧ r.2.mem ((c.tc : Thread nD τ).loc main_v8) = result (argW m c) (argK m c) (argS m c) (argB m c) 1) := by
  refine (θ_run defs _ _).mono (fun r h c => ⟨?_, ?_⟩) (run_main m ρ)
  · refine ((h c).2 main_v7 (Pipeline.mem_restRefs_of main_v7 (by decide) (by decide))).trans ?_
    unfold Pipeline.afterTail₀
    simp only [hostOps1, List.flatten_cons, List.flatten_nil, List.append_nil]
    after_results
    refine (congrArg (transpose S144x20x20x160 [2, 0, 1, 3] · transposes_S20x20x144x160_S144x20x20x160_2_0_1_3)
      ((Pipeline.withArrays_arr spec0 arrays_ne c (V0 m c) (fun w => (dats m 0 c).arrAt w (cfgs 0).N) 4).trans (array_lo m c))).trans ?_
    exact transposed _ _ _ _ _
  · refine ((h c).2 main_v8 (Pipeline.mem_restRefs_of main_v8 (by decide) (by decide))).trans ?_
    unfold Pipeline.afterTail₀
    simp only [hostOps1, List.flatten_cons, List.flatten_nil, List.append_nil]
    after_results
    refine (congrArg (transpose S144x20x20x160 [2, 0, 1, 3] · transposes_S20x20x144x160_S144x20x20x160_2_0_1_3)
      ((Pipeline.withArrays_arr spec0 arrays_ne c (V0 m c) (fun w => (dats m 0 c).arrAt w (cfgs 0).N) 5).trans (array_hi m c))).trans ?_
    exact transposed _ _ _ _ _

end Cert.KernelIdeal.Gen

end
-- ==== Proof.RefConv.lean ====
/- The reference's arrays as functions of its arguments: the images cut out of the words, the windows of the images, and one stack's
   convolution. -/
module

public import proofs.«01_k».proof.Proof.Gen.ReferenceIdeal.Frame
public import proofs.«01_k».proof.Proof.Spec
public import Idealize.ShloMosaic.Lib.Claim
public import Idealize.ShloMosaic.Lib.Pointwise
public import Idealize.ShloMosaic.Lib.BitcastConvert

@[expose] public section

set_option maxRecDepth 16384

noncomputable section

namespace Cert.ReferenceIdeal.Gen

open Idealize.ShloMosaic Idealize.ShloMosaic.Pointwise
open Cert.Conv

/-- The images of both stacks. -/
def images (W : Words) : Vec Ideal S2x144x4x84x84 .i8 :=
  shapeCast S2x144x4x84x84 (transpose S2x36x4x4x21x4x21x4 [1, 2, 7, 6, 0, 5, 3, 4]
    (Host.bitcastConvertNarrow S21x2x36x21x4x4x4x4 8
      (shapeCast S21x2x36x21x4x4x4
        (extractStridedSlice S21x2x36x1344 ![0, 0, 0, 0] (shapeCast S21x2x36x1408 W shapeCasts_S2128896_S21x2x36x1408)
          slices_S21x2x36x1408_S21x2x36x1344_0_0_0_0)
        shapeCasts_S21x2x36x1344_S21x2x36x21x4x4x4)
      splits_S21x2x36x21x4x4x4_w32_S21x2x36x21x4x4x4x4_w8)
    transposes_S21x2x36x21x4x4x4x4_S2x36x4x4x21x4x21x4_1_2_7_6_0_5_3_4) shapeCasts_S2x36x4x4x21x4x21x4_S2x144x4x84x84

theorem images_apply (W : Words) (st : Fin 2) (b : Fin 144) (j : Fin 4) (h w : Fin 84) :
    images W (ix5 st b j h w) = Cert.KernelIdeal.Gen.byteOf (W (ix1 ⟨wordAt st b j h w, wordAt_lt st b j h w⟩)) (b.val % 4) := by
  unfold images Cert.KernelIdeal.Gen.byteOf
  pointwise
  have e : h.val / 4 * 101376 + st.val * 50688 + b.val / 4 * 1408 + (w.val / 4 * 64 + w.val % 4 * 16 + h.val % 4 * 4 + j.val) = wordAt st b j h w := by
    unfold wordAt; omega
  exact congr (congrArg (fun s v => BitVec.extractLsb' s 8 v) (Nat.mul_comm (b.val % 4) 8)) (congrArg (fun n => W (ix1 n)) (Fin.ext e))

theorem slicesRow : ∀ k : Fin 8, S144x4x84x84.SlicesBy (![0, 0, k.val, 0] : Fin 4 → ℕ) ![1, 1, 4, 1] S144x4x20x84 := by decide
theorem slicesCol : ∀ k : Fin 8, S8x144x4x20x84.SlicesBy (![0, 0, 0, 0, k.val] : Fin 5 → ℕ) ![1, 1, 1, 1, 4] S8x144x4x20x20 := by decide

/-- Row `k` of every window of every image. -/
def rowOf (x : Vec Ideal S144x4x84x84 .bf16) (k : Fin 8) : Vec Ideal S1x144x4x20x84 .bf16 :=
  broadcastInDim S1x144x4x20x84 ![1, 2, 3, 4] bcast_S144x4x20x84_S1x144x4x20x84_1_2_3_4
    (Host.slice S144x4x20x84 ![0, 0, k.val, 0] ![1, 1, 4, 1] x (slicesRow k))

/-- The rows of the windows. -/
def rows (x : Vec Ideal S144x4x84x84 .bf16) : Vec Ideal S8x144x4x20x84 .bf16 :=
  concatenate S8x144x4x20x84 0 [⟨S1x144x4x20x84, rowOf x 0⟩, ⟨S1x144x4x20x84, rowOf x 1⟩, ⟨S1x144x4x20x84, rowOf x 2⟩, ⟨S1x144x4x20x84, rowOf x 3⟩,
    ⟨S1x144x4x20x84, rowOf x 4⟩, ⟨S1x144x4x20x84, rowOf x 5⟩, ⟨S1x144x4x20x84, rowOf x 6⟩, ⟨S1x144x4x20x84, rowOf x 7⟩]
    concatenates_S1x144x4x20x84_S1x144x4x20x84_S1x144x4x20x84_S1x144x4x20x84_S1x144x4x20x84_S1x144x4x20x84_S1x144x4x20x84_S1x144x4x20x84_S8x144x4x20x84_d0

/-- Column `k` of every window. -/
def colOf (x : Vec Ideal S8x144x4x20x84 .bf16) (k : Fin 8) : Vec Ideal S1x8x144x4x20x20 .bf16 :=
  broadcastInDim S1x8x144x4x20x20 ![1, 2, 3, 4, 5] bcast_S8x144x4x20x20_S1x8x144x4x20x20_1_2_3_4_5
    (Host.slice S8x144x4x20x20 ![0, 0, 0, 0, k.val] ![1, 1, 1, 1, 4] x (slicesCol k))

/-- The columns of the windows. -/
def cols (x : Vec Ideal S8x144x4x20x84 .bf16) : Vec Ideal S8x8x144x4x20x20 .bf16 :=
  concatenate S8x8x144x4x20x20 0 [⟨S1x8x144x4x20x20, colOf x 0⟩, ⟨S1x8x144x4x20x20, colOf x 1⟩, ⟨S1x8x144x4x20x20, colOf x 2⟩, ⟨S1x8x144x4x20x20, colOf x 3⟩,
    ⟨S1x8x144x4x20x20, colOf x 4⟩, ⟨S1x8x144x4x20x20, colOf x 5⟩, ⟨S1x8x144x4x20x20, colOf x 6⟩, ⟨S1x8x144x4x20x20, colOf x 7⟩]
    concatenates_S1x8x144x4x20x20_S1x8x144x4x20x20_S1x8x144x4x20x20_S1x8x144x4x20x20_S1x8x144x4x20x20_S1x8x144x4x20x20_S1x8x144x4x20x20_S1x8x144x4x20x20_S8x8x144x4x20x20_d0

theorem rowOf_apply (x : Vec Ideal S144x4x84x84 .bf16) (k : Fin 8) (z : Fin 1) (b : Fin 144) (j : Fin 4) (oh : Fin 20) (w : Fin 84) :
    rowOf x k (ix5 z b j oh w) = x (ix4 b j (at4 oh k) w) := by
  unfold rowOf
  pointwise
  exact congrArg (fun h => x (ix4 b j h w)) (Fin.ext (Nat.add_comm _ _))

theorem rows_apply (x : Vec Ideal S144x4x84x84 .bf16) (k : Fin 8) (b : Fin 144) (j : Fin 4) (oh : Fin 20) (w : Fin 84) :
    rows x (ix5 k b j oh w) = x (ix4 b j (at4 oh k) w) := by
  unfold rows
  pointwise
  fin_vals k with hk
  all_goals
    simp only [hk, Nat.reduceSub, Nat.reduceLT, ↓reduceDIte, rowOf_apply]
    exact congrArg (fun n => x (ix4 b j n w)) (Fin.ext (by simp only [at4, hk]; rfl))

theorem colOf_apply (x : Vec Ideal S8x144x4x20x84 .bf16) (k : Fin 8) (z : Fin 1) (kh : Fin 8) (b : Fin 144) (j : Fin 4) (oh ow : Fin 20) :
    colOf x k (ix6 z kh b j oh ow) = x (ix5 kh b j oh (at4 ow k)) := by
  unfold colOf
  pointwise
  exact congrArg (fun h => x (ix5 kh b j oh h)) (Fin.ext (Nat.add_comm _ _))

theorem cols_apply (x : Vec Ideal S8x144x4x20x84 .bf16) (k kh : Fin 8) (b : Fin 144) (j : Fin 4) (oh ow : Fin 20) :
    cols x (ix6 k kh b j oh ow) = x (ix5 kh b j oh (at4 ow k)) := by
  unfold cols
  pointwise
  fin_vals k with hk
  all_goals
    simp only [hk, Nat.reduceSub, Nat.reduceLT, ↓reduceDIte, colOf_apply]
    exact congrArg (fun n => x (ix5 kh b j oh n)) (Fin.ext (by simp only [at4, hk]; rfl))

/-- A stack's bytes as numbers. -/
def numbers (y : Vec Ideal S1x144x4x84x84 .i8) : Vec Ideal S144x4x84x84 .bf16 :=
  truncf (F := Ideal) .bf16 (sitofp (F := Ideal) .f32 (extui 32 (shapeCast S144x4x84x84 y shapeCasts_S1x144x4x84x84_S144x4x84x84) natLt_8_32)) bitsLt_bf16_f32

theorem numbers_apply (y : Vec Ideal S1x144x4x84x84 .i8) (b : Fin 144) (j : Fin 4) (h w : Fin 84) :
    numbers y (ix4 b j h w) = (((y (ix5 0 b j h w) : BitVec 8).toNat : ℝ) : EReal) := by
  unfold numbers
  pointwise
  have e : (BitVec.setWidth 32 (y (ix5 0 b j h w) : BitVec 8)).toInt = ((y (ix5 0 b j h w) : BitVec 8).toNat : ℤ) := by
    generalize (y (ix5 0 b j h w) : BitVec 8) = v
    have := v.isLt
    rw [BitVec.toInt_eq_toNat_of_lt (by rw [BitVec.toNat_setWidth]; omega), BitVec.toNat_setWidth]
    omega
  show (((BitVec.setWidth 32 (y (ix5 0 b j h w) : BitVec 8)).toInt : ℝ) : EReal) = _
  rw [e]
  simp

theorem stackLo_apply (W : Words) (z : Fin 1) (b : Fin 144) (j : Fin 4) (h w : Fin 84) :
    extractStridedSlice S1x144x4x84x84 ![0, 0, 0, 0, 0] (images W) slices_S2x144x4x84x84_S1x144x4x84x84_0_0_0_0_0 (ix5 z b j h w) = images W (ix5 0 b j h w) := by
  pointwise
theorem stackHi_apply (W : Words) (z : Fin 1) (b : Fin 144) (j : Fin 4) (h w : Fin 84) :
    extractStridedSlice S1x144x4x84x84 ![1, 0, 0, 0, 0] (images W) slices_S2x144x4x84x84_S1x144x4x84x84_1_0_0_0_0 (ix5 z b j h w) = images W (ix5 1 b j h w) := by
  pointwise

/-- The dimension numbers of the one product: columns, rows and planes of the windows against those of the weights. -/
abbrev tapDims := dot_S8x8x144x4x20x20_S8x8x4x160_S144x20x20x160_013_102_245_3_n_n

/-- A tap, as the product counts them. -/
def tapIdx (p : Fin 8 × Fin 8 × Fin 4) : tapDims.contr.Idx := fun a => match a with
  | ⟨0, _⟩ => p.1
  | ⟨1, _⟩ => p.2.1
  | ⟨2, _⟩ => p.2.2

def tapEquiv : Fin 8 × Fin 8 × Fin 4 ≃ tapDims.contr.Idx where
  toFun := tapIdx
  invFun q := (q ⟨0, by decide⟩, q ⟨1, by decide⟩, q ⟨2, by decide⟩)
  left_inv _ := rfl
  right_inv q := by
    funext a
    match a with
    | ⟨0, _⟩ => rfl
    | ⟨1, _⟩ => rfl
    | ⟨2, _⟩ => rfl

theorem lhs_tap (b : Fin 144) (oh ow : Fin 20) (d : Fin 160) (kw kh : Fin 8) (j : Fin 4) :
    tapDims.lhsIdx (ix4 b oh ow d) (tapIdx (kw, kh, j)) = ix6 kw kh b j oh ow := by
  rw [eq_ix6 (tapDims.lhsIdx (ix4 b oh ow d) (tapIdx (kw, kh, j)))]
  rfl
theorem rhs_tap (b : Fin 144) (oh ow : Fin 20) (d : Fin 160) (kw kh : Fin 8) (j : Fin 4) :
    tapDims.rhsIdx (ix4 b oh ow d) (tapIdx (kw, kh, j)) = ix4 kh kw j d := by
  rw [eq_ix4 (tapDims.rhsIdx (ix4 b oh ow d) (tapIdx (kw, kh, j)))]
  rfl

theorem product_apply (l : Vec Ideal S8x8x144x4x20x20 .bf16) (K : Vec Ideal S8x8x4x160 .bf16) (b : Fin 144) (oh ow : Fin 20) (d : Fin 160) :
    Ideal.matmul tapDims l K (fun _ => 0) (ix4 b oh ow d)
      = ∑ kw : Fin 8, ∑ kh : Fin 8, ∑ j : Fin 4, (l (ix6 kw kh b j oh ow) : EReal) * (K (ix4 kh kw j d) : EReal) := by
  have e : Ideal.matmul tapDims l K (fun _ => 0) (ix4 b oh ow d)
      = 0 + ∑ k : tapDims.contr.Idx, (l (tapDims.lhsIdx (ix4 b oh ow d) k) : EReal) * (K (tapDims.rhsIdx (ix4 b oh ow d) k) : EReal) := by rfl
  rw [e, zero_add, ← tapEquiv.sum_comp, Fintype.sum_prod_type]
  simp only [Fintype.sum_prod_type]
  show ∑ kw : Fin 8, ∑ kh : Fin 8, ∑ j : Fin 4, (l (tapDims.lhsIdx (ix4 b oh ow d) (tapIdx (kw, kh, j))) : EReal) * (K (tapDims.rhsIdx (ix4 b oh ow d) (tapIdx (kw, kh, j))) : EReal) = _
  simp only [lhs_tap, rhs_tap]

/-- One stack's convolution. -/
def conv (x : Vec Ideal S144x4x84x84 .bf16) (K : Vec Ideal S8x8x4x160 .bf16) (sc bi : Row) : Vec Ideal S144x20x20x160 .bf16 :=
  truncf (F := Ideal) .bf16 (maximumf (addf (mulf (Host.dotGeneral (F := Ideal) (φ₁ := .bf16) (φ₂ := .bf16) dot_S8x8x144x4x20x20_S8x8x4x160_S144x20x20x160_013_102_245_3_n_n none (cols (rows x)) K : FVec Ideal S144x20x20x160 .f32)
      (broadcastInDim S144x20x20x160 ![0, 1, 2, 3] bcast_S1x1x1x160_S144x20x20x160_0_1_2_3 (broadcastInDim S1x1x1x160 ![3] bcast_S160_S1x1x1x160_3 sc)))
      (broadcastInDim S144x20x20x160 ![0, 1, 2, 3] bcast_S1x1x1x160_S144x20x20x160_0_1_2_3 (broadcastInDim S1x1x1x160 ![3] bcast_S160_S1x1x1x160_3 bi)))
      (broadcastInDim S144x20x20x160 ![] bcast_S_S144x20x20x160 (constant (F := Ideal) S_ .f32 0x00000000#32))) bitsLt_bf16_f32

theorem conv_apply (x : Vec Ideal S144x4x84x84 .bf16) (K : Vec Ideal S8x8x4x160 .bf16) (sc bi : Row) (b : Fin 144) (oh ow : Fin 20) (d : Fin 160) :
    conv x K sc bi (ix4 b oh ow d)
      = max ((∑ kw : Fin 8, ∑ kh : Fin 8, ∑ j : Fin 4, (x (ix4 b j (at4 oh kh) (at4 ow kw)) : EReal) * (K (ix4 kh kw j d) : EReal)) * (sc (ix1 d) : EReal) + (bi (ix1 d) : EReal)) 0 := by
  unfold conv
  pointwise
  rw [product_apply]
  simp only [cols_apply, rows_apply]

end Cert.ReferenceIdeal.Gen

end
-- ==== Proof.RefReads.lean ====
/- The reference's host operations, read at its two results. -/
module

public import proofs.«01_k».proof.Proof.RefConv
public import Idealize.ShloMosaic.Lib.StableHlo.RunRead

@[expose] public section

set_option maxRecDepth 65536

noncomputable section

namespace Cert.ReferenceIdeal.Gen

open Idealize.ShloMosaic Idealize.ShloMosaic.StableHlo
open Cert.Conv

/-- The host operations after the region, in order. -/
abbrev tail : List (HloOp τ sig (Elt Ideal)) := [hostOps1, hostOps1_1, hostOps1_2, hostOps1_3, hostOps1_4].flatten

/-- The bytes of stack 0 as numbers. -/
def loNumbers (V : Valuation τ sig (Elt Ideal)) : Vec Ideal S144x4x84x84 .bf16 :=
  numbers (extractStridedSlice S1x144x4x84x84 ![0, 0, 0, 0, 0] (images (V (Proc.devRef .tc main_arg0))) slices_S2x144x4x84x84_S1x144x4x84x84_0_0_0_0_0)

theorem lo_rows (V : Valuation τ sig (Elt Ideal)) :
    upto tail V 27 (Proc.devRef .tc main_v20) = rowOf (loNumbers V) 0
    ∧ upto tail V 27 (Proc.devRef .tc main_v21) = rowOf (loNumbers V) 1
    ∧ upto tail V 27 (Proc.devRef .tc main_v22) = rowOf (loNumbers V) 2
    ∧ upto tail V 27 (Proc.devRef .tc main_v23) = rowOf (loNumbers V) 3
    ∧ upto tail V 27 (Proc.devRef .tc main_v24) = rowOf (loNumbers V) 4
    ∧ upto tail V 27 (Proc.devRef .tc main_v25) = rowOf (loNumbers V) 5
    ∧ upto tail V 27 (Proc.devRef .tc main_v26) = rowOf (loNumbers V) 6
    ∧ upto tail V 27 (Proc.devRef .tc main_v27) = rowOf (loNumbers V) 7 := by
  refine ⟨?_, ?_, ?_, ?_, ?_, ?_, ?_, ?_⟩
  all_goals
    after_reads_simp
    rfl

theorem lo_cols (V : Valuation τ sig (Elt Ideal)) :
    upto tail V 44 (Proc.devRef .tc main_v37) = colOf (rows (loNumbers V)) 0
    ∧ upto tail V 44 (Proc.devRef .tc main_v38) = colOf (rows (loNumbers V)) 1
    ∧ upto tail V 44 (Proc.devRef .tc main_v39) = colOf (rows (loNumbers V)) 2
    ∧ upto tail V 44 (Proc.devRef .tc main_v40) = colOf (rows (loNumbers V)) 3
    ∧ upto tail V 44 (Proc.devRef .tc main_v41) = colOf (rows (loNumbers V)) 4
    ∧ upto tail V 44 (Proc.devRef .tc main_v42) = colOf (rows (loNumbers V)) 5
    ∧ upto tail V 44 (Proc.devRef .tc main_v43) = colOf (rows (loNumbers V)) 6
    ∧ upto tail V 44 (Proc.devRef .tc main_v44) = colOf (rows (loNumbers V)) 7 := by
  obtain ⟨h0, h1, h2, h3, h4, h5, h6, h7⟩ := lo_rows V
  refine ⟨?_, ?_, ?_, ?_, ?_, ?_, ?_, ?_⟩
  all_goals
    after_reads_simp
    dsimp only [Matrix.cons_val]
    rw [h0, h1, h2, h3, h4, h5, h6, h7]
    rfl

theorem lo_read (V : Valuation τ sig (Elt Ideal)) :
    after tail V (Proc.devRef .tc main_v54)
      = conv (loNumbers V) (V (Proc.devRef .tc main_v0)) (V (Proc.devRef .tc main_arg2)) (V (Proc.devRef .tc main_arg3)) := by
  obtain ⟨h0, h1, h2, h3, h4, h5, h6, h7⟩ := lo_cols V
  after_reads_simp
  dsimp only [Matrix.cons_val]
  rw [h0, h1, h2, h3, h4, h5, h6, h7]
  rfl

/-- The bytes of stack 1 as numbers. -/
def hiNumbers (V : Valuation τ sig (Elt Ideal)) : Vec Ideal S144x4x84x84 .bf16 :=
  numbers (extractStridedSlice S1x144x4x84x84 ![1, 0, 0, 0, 0] (images (V (Proc.devRef .tc main_arg0))) slices_S2x144x4x84x84_S1x144x4x84x84_1_0_0_0_0)

theorem hi_rows (V : Valuation τ sig (Elt Ideal)) :
    upto tail V 77 (Proc.devRef .tc main_v68) = rowOf (hiNumbers V) 0
    ∧ upto tail V 77 (Proc.devRef .tc main_v69) = rowOf (hiNumbers V) 1
    ∧ upto tail V 77 (Proc.devRef .tc main_v70) = rowOf (hiNumbers V) 2
    ∧ upto tail V 77 (Proc.devRef .tc main_v71) = rowOf (hiNumbers V) 3
    ∧ upto tail V 77 (Proc.devRef .tc main_v72) = rowOf (hiNumbers V) 4
    ∧ upto tail V 77 (Proc.devRef .tc main_v73) = rowOf (hiNumbers V) 5
    ∧ upto tail V 77 (Proc.devRef .tc main_v74) = rowOf (hiNumbers V) 6
    ∧ upto tail V 77 (Proc.devRef .tc main_v75) = rowOf (hiNumbers V) 7 := by
  refine ⟨?_, ?_, ?_, ?_, ?_, ?_, ?_, ?_⟩
  all_goals
    after_reads_simp
    rfl

theorem hi_cols (V : Valuation τ sig (Elt Ideal)) :
    upto tail V 94 (Proc.devRef .tc main_v85) = colOf (rows (hiNumbers V)) 0
    ∧ upto tail V 94 (Proc.devRef .tc main_v86) = colOf (rows (hiNumbers V)) 1
    ∧ upto tail V 94 (Proc.devRef .tc main_v87) = colOf (rows (hiNumbers V)) 2
    ∧ upto tail V 94 (Proc.devRef .tc main_v88) = colOf (rows (hiNumbers V)) 3
    ∧ upto tail V 94 (Proc.devRef .tc main_v89) = colOf (rows (hiNumbers V)) 4
    ∧ upto tail V 94 (Proc.devRef .tc main_v90) = colOf (rows (hiNumbers V)) 5
    ∧ upto tail V 94 (Proc.devRef .tc main_v91) = colOf (rows (hiNumbers V)) 6
    ∧ upto tail V 94 (Proc.devRef .tc main_v92) = colOf (rows (hiNumbers V)) 7 := by
  obtain ⟨h0, h1, h2, h3, h4, h5, h6, h7⟩ := hi_rows V
  refine ⟨?_, ?_, ?_, ?_, ?_, ?_, ?_, ?_⟩
  all_goals
    after_reads_simp
    dsimp only [Matrix.cons_val]
    rw [h0, h1, h2, h3, h4, h5, h6, h7]
    rfl

theorem hi_read (V : Valuation τ sig (Elt Ideal)) :
    after tail V (Proc.devRef .tc main_v102)
      = conv (hiNumbers V) (V (Proc.devRef .tc main_v0)) (V (Proc.devRef .tc main_arg2)) (V (Proc.devRef .tc main_arg3)) := by
  obtain ⟨h0, h1, h2, h3, h4, h5, h6, h7⟩ := hi_cols V
  after_reads_simp
  dsimp only [Matrix.cons_val]
  rw [h0, h1, h2, h3, h4, h5, h6, h7]
  rfl

end Cert.ReferenceIdeal.Gen

end
-- ==== Proof.RefValues.lean ====
/- The reference's results: every entry is the feature of one window of the images in the array of words. -/
module

public import proofs.«01_k».proof.Proof.RefReads
public import Idealize.ShloMosaic.Lib.Pipeline.ValueKit

@[expose] public section

set_option maxRecDepth 16384

noncomputable section

namespace Cert.ReferenceIdeal.Gen

open Idealize.ShloMosaic Idealize.ShloMosaic.Pointwise Idealize.ShloMosaic.TcCoe Idealize.SL.Sem
open Cert.Conv

variable (m : (ℓ : Loc nD τ sig) → Buf (Elt Ideal) ℓ) (c : Dev nD)

/-- The arguments. -/
abbrev argW : Words := m ((c : Thread nD τ).loc main_arg0)
abbrev argK : Weights := m ((c : Thread nD τ).loc main_arg1)
abbrev argS : Row := m ((c : Thread nD τ).loc main_arg2)
abbrev argB : Row := m ((c : Thread nD τ).loc main_arg3)

theorem index0 : ∀ t : Fin cfg0.N, win0_0.index t = ![0, 0, 0, 0] := by decide +kernel
theorem index1 : ∀ t : Fin cfg0.N, win0_1.index t = ![0, 0, 0, 0] := by decide +kernel

theorem widened (K : Weights) : (out0_1 (F := Ideal) K : S8x8x4x160.Idx → EReal) = K := by
  unfold out0_1
  rw [View.canon_unit_zero (by funext a; fin_cases a <;> rfl)]
  funext y
  show (K (r0_0.idx y) : EReal) = K y
  congr 1
  funext a
  match a with
  | ⟨0, _⟩ => exact Fin.ext (show 0 + 1 * (y 0).val = (y 0).val by omega)
  | ⟨1, _⟩ => exact Fin.ext (show 0 + 1 * (y 1).val = (y 1).val by omega)
  | ⟨2, _⟩ => exact Fin.ext (show 0 + 1 * (y 2).val = (y 2).val by omega)
  | ⟨3, _⟩ => exact Fin.ext (show 0 + 1 * (y 3).val = (y 3).val by omega)

/-- The cast weights are the weights. -/
theorem array_weights : (dats m 0 c).arrAt 1 cfg0.N = (argK m c : S8x8x4x160.Idx → EReal) := by
  refine (dats m 0 c).arrAt_eq_of_covers 1 _ (by decide +kernel) fun t hf y => ?_
  blk_simp
  rw [after0_1]
  obtain ⟨a, b, j, d, rfl⟩ : ∃ (a b : Fin 8) (j : Fin 4) (d : Fin 160), y = ix4 a b j d :=
    ⟨_, _, _, _, eq_ix4 (n0 := 8) (n1 := 8) (n2 := 4) (n3 := 160) y⟩
  have e0 : (win0_0.blk t).view.emb (ix4 a b j d) = ix4 a b j d := by
    blk_ext [index0]
  have e1 : (win0_1.blk t).view.emb (ix4 a b j d) = ix4 a b j d := by
    blk_ext [index1]
  rw [e1]
  refine (congrFun (widened (iblk m c 0 t)) (ix4 a b j d)).trans ?_
  show argK m c ((win0_0.blk t).view.emb (ix4 a b j d)) = _
  rw [e0]

theorem arrays_ne : Function.Injective (Pipeline.arrRef spec0) := by decide

/-- What the buffers hold after the region. -/
abbrev W : Valuation τ sig (Elt Ideal) := Pipeline.withArrays spec0 c (V0 m c) (fun w => (dats m 0 c).arrAt w (cfgs 0).N)

theorem W_weights : W m c (Proc.devRef .tc main_v0) = (argK m c : S8x8x4x160.Idx → EReal) :=
  (Pipeline.withArrays_arr spec0 arrays_ne c (V0 m c) (fun w => (dats m 0 c).arrAt w (cfgs 0).N) 1).trans (array_weights m c)
theorem W_words : W m c (Proc.devRef .tc main_arg0) = argW m c :=
  Pipeline.withArrays_of_ne spec0 c (V0 m c) _ main_arg0 (by exact (by decide : ∀ w, Pipeline.arrRef spec0 w ≠ main_arg0))
theorem W_scale : W m c (Proc.devRef .tc main_arg2) = argS m c :=
  Pipeline.withArrays_of_ne spec0 c (V0 m c) _ main_arg2 (by exact (by decide : ∀ w, Pipeline.arrRef spec0 w ≠ main_arg2))
theorem W_bias : W m c (Proc.devRef .tc main_arg3) = argB m c :=
  Pipeline.withArrays_of_ne spec0 c (V0 m c) _ main_arg3 (by exact (by decide : ∀ w, Pipeline.arrRef spec0 w ≠ main_arg3))

theorem lo_pixel (V : Valuation τ sig (Elt Ideal)) (X : Words) (h : V (Proc.devRef .tc main_arg0) = X) (b : Fin 144) (j : Fin 4) (r w : Fin 84) :
    loNumbers V (ix4 b j r w) = pixel X 0 b j r w := by
  subst h
  exact (numbers_apply _ b j r w).trans (congrArg (fun v : BitVec 8 => ((v.toNat : ℝ) : EReal)) ((stackLo_apply _ 0 b j r w).trans (images_apply _ 0 b j r w)))

theorem hi_pixel (V : Valuation τ sig (Elt Ideal)) (X : Words) (h : V (Proc.devRef .tc main_arg0) = X) (b : Fin 144) (j : Fin 4) (r w : Fin 84) :
    hiNumbers V (ix4 b j r w) = pixel X 1 b j r w := by
  subst h
  exact (numbers_apply _ b j r w).trans (congrArg (fun v : BitVec 8 => ((v.toNat : ℝ) : EReal)) ((stackHi_apply _ 0 b j r w).trans (images_apply _ 1 b j r w)))

/-- A convolution of the pixels of a stack is its features. -/
theorem conv_result (x : Vec Ideal S144x4x84x84 .bf16) (X : Words) (st : Fin 2) (h : ∀ b j r w, x (ix4 b j r w) = pixel X st b j r w)
    (K : Weights) (sc bi : Row) : conv x K sc bi = result X K sc bi st := by
  funext y
  obtain ⟨b, oh, ow, d, rfl⟩ : ∃ (b : Fin 144) (oh ow : Fin 20) (d : Fin 160), y = ix4 b oh ow d := ⟨_, _, _, _, eq_ix4 y⟩
  rw [conv_apply]
  show _ = feature X K sc bi st b oh ow d
  unfold feature
  simp only [h]

/-- The run: the two results are the features of the two stacks. -/
theorem values (ρ : Dev nD → PrngReg) : θ_run defs (onTc (τ := τ) (main (F := Ideal))) ⟨m, fun _ => 0, ρ⟩ (fun r => ∀ c : Dev nD,
      r.2.mem ((c.tc : Thread nD τ).loc main_v54) = result (argW m c) (argK m c) (argS m c) (argB m c) 0
      ∧ r.2.mem ((c.tc : Thread nD τ).loc main_v102) = result (argW m c) (argK m c) (argS m c) (argB m c) 1) := by
  refine (θ_run defs _ _).mono (fun r h c => ⟨?_, ?_⟩) (run_main m ρ)
  · refine ((h c).2 main_v54 (Pipeline.mem_restRefs_of main_v54 (by decide) (by decide))).trans ?_
    refine (lo_read (W m c)).trans ?_
    rw [W_weights, W_scale, W_bias]
    exact conv_result _ _ 0 (lo_pixel _ _ (W_words m c)) _ _ _
  · refine ((h c).2 main_v102 (Pipeline.mem_restRefs_of main_v102 (by decide) (by decide))).trans ?_
    refine (hi_read (W m c)).trans ?_
    rw [W_weights, W_scale, W_bias]
    exact conv_result _ _ 1 (hi_pixel _ _ (W_words m c)) _ _ _

end Cert.ReferenceIdeal.Gen

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelFrame
public import proofs.«01_k».proof.Proof.IdealFrame
public import proofs.«01_k».proof.Proof.IdealArrays
public import proofs.«01_k».proof.Proof.RefValues
public import Idealize.ShloMosaic.Adequacy
public import Idealize.ShloMosaic.Init

@[expose] public section

noncomputable section

namespace Cert.Proof

open Idealize.ShloMosaic Idealize.SL.Sem Cert.Kernel

theorem result_congr {W W' : Cert.Conv.Words} {K K' : Cert.Conv.Weights} {sc sc' bi bi' : Cert.Conv.Row} (h0 : W = W') (h1 : K = K')
    (h2 : sc = sc') (h3 : bi = bi') (st : Fin 2) : Cert.Conv.result W K sc bi st = Cert.Conv.result W' K' sc' bi' st := by
  rw [h0, h1, h2, h3]

/-- Kernel and reference compute the same two arrays: the features of the windows of the two stacks of images. -/
theorem algebraic : Cert.algebraic_KernelIdeal_ReferenceIdeal (hKernelIdeal := Cert.KernelIdeal.Gen.facts) (hReferenceIdeal := Cert.ReferenceIdeal.Gen.facts) := by
  intro m g m' g' _ hagree
  refine ⟨fun c => Cert.Conv.result (Cert.KernelIdeal.Gen.argW m c) (Cert.KernelIdeal.Gen.argK m c) (Cert.KernelIdeal.Gen.argS m c) (Cert.KernelIdeal.Gen.argB m c) 0,
    fun c => Cert.Conv.result (Cert.KernelIdeal.Gen.argW m c) (Cert.KernelIdeal.Gen.argK m c) (Cert.KernelIdeal.Gen.argS m c) (Cert.KernelIdeal.Gen.argB m c) 1, ?_, ?_⟩
  · exact (θ_run _ _ _).mono (fun r h c => ⟨(h.1 c).1, (h.1 c).2, h.2 c⟩)
      (θ_run_and (Cert.KernelIdeal.Gen.values m g) (Cert.KernelIdeal.Gen.unchanged m g))
  · refine (θ_run _ _ _).mono (fun r h c => ?_)
      (θ_run_and (Cert.ReferenceIdeal.Gen.values m' g') (Cert.ReferenceIdeal.Gen.unchanged m' g'))
    obtain ⟨h0, h1, h2, h3⟩ := hagree c
    have e (st : Fin 2) : Cert.Conv.result (Cert.ReferenceIdeal.Gen.argW m' c) (Cert.ReferenceIdeal.Gen.argK m' c) (Cert.ReferenceIdeal.Gen.argS m' c) (Cert.ReferenceIdeal.Gen.argB m' c) st
        = Cert.Conv.result (Cert.KernelIdeal.Gen.argW m c) (Cert.KernelIdeal.Gen.argK m c) (Cert.KernelIdeal.Gen.argS m c) (Cert.KernelIdeal.Gen.argB m c) st := by
      unfold Cert.ReferenceIdeal.Gen.argW Cert.ReferenceIdeal.Gen.argK Cert.ReferenceIdeal.Gen.argS Cert.ReferenceIdeal.Gen.argB
      exact result_congr h0 h1 h2 h3 st
    exact ⟨(h.1 c).1.trans (e 0), (h.1 c).2.trans (e 1), h.2 c⟩

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
